-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v4_0)) (v3 : (c : Dev Cert.KernelIdeal.nD) → Buf (Elt Ideal) ((c.tc : Thread Cert.KernelIdeal.nD Cert.KernelIdeal.τ).loc Cert.KernelIdeal.main_v5_0)) (v4 : (c : Dev Cert.KernelIdeal.nD) → Buf (Elt Ideal) ((c.tc : Thread Cert.KernelIdeal.nD Cert.KernelIdeal.τ).loc Cert.KernelIdeal.main_v4_1)) (v5 : (c : Dev Cert.KernelIdeal.nD) → Buf (Elt Ideal) ((c.tc : Thread Cert.KernelIdeal.nD Cert.KernelIdeal.τ).loc Cert.KernelIdeal.main_v5_1)) (v6 : (c : Dev Cert.KernelIdeal.nD) → Buf (Elt Ideal) ((c.tc : Thread Cert.KernelIdeal.nD Cert.KernelIdeal.τ).loc Cert.KernelIdeal.main_v2_0)) (v7 : (c : Dev Cert.KernelIdeal.nD) → Buf (Elt Ideal) ((c.tc : Thread Cert.KernelIdeal.nD Cert.KernelIdeal.τ).loc Cert.KernelIdeal.main_v2_1)) (v8 : (c : Dev Cert.KernelIdeal.nD) → Buf (Elt Ideal) ((c.tc : Thread Cert.KernelIdeal.nD Cert.KernelIdeal.τ).loc Cert.KernelIdeal.main_v2_2)) (v9 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v4_0) = v2 c
          ∧ r.2.mem ((c.tc : Thread Cert.KernelIdeal.nD Cert.KernelIdeal.τ).loc Cert.KernelIdeal.main_v5_0) = v3 c
          ∧ r.2.mem ((c.tc : Thread Cert.KernelIdeal.nD Cert.KernelIdeal.τ).loc Cert.KernelIdeal.main_v4_1) = v4 c
          ∧ r.2.mem ((c.tc : Thread Cert.KernelIdeal.nD Cert.KernelIdeal.τ).loc Cert.KernelIdeal.main_v5_1) = v5 c
          ∧ r.2.mem ((c.tc : Thread Cert.KernelIdeal.nD Cert.KernelIdeal.τ).loc Cert.KernelIdeal.main_v2_0) = v6 c
          ∧ r.2.mem ((c.tc : Thread Cert.KernelIdeal.nD Cert.KernelIdeal.τ).loc Cert.KernelIdeal.main_v2_1) = v7 c
          ∧ r.2.mem ((c.tc : Thread Cert.KernelIdeal.nD Cert.KernelIdeal.τ).loc Cert.KernelIdeal.main_v2_2) = v8 c
          ∧ r.2.mem ((c.tc : Thread Cert.KernelIdeal.nD Cert.KernelIdeal.τ).loc Cert.KernelIdeal.main_v2_3) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_v109) = v3 c
          ∧ r.2.mem ((c.tc : Thread Cert.ReferenceIdeal.nD Cert.ReferenceIdeal.τ).loc Cert.ReferenceIdeal.main_v115) = v4 c
          ∧ r.2.mem ((c.tc : Thread Cert.ReferenceIdeal.nD Cert.ReferenceIdeal.τ).loc Cert.ReferenceIdeal.main_v121) = v5 c
          ∧ r.2.mem ((c.tc : Thread Cert.ReferenceIdeal.nD Cert.ReferenceIdeal.τ).loc Cert.ReferenceIdeal.main_v38_0) = v6 c
          ∧ r.2.mem ((c.tc : Thread Cert.ReferenceIdeal.nD Cert.ReferenceIdeal.τ).loc Cert.ReferenceIdeal.main_v38_1) = v7 c
          ∧ r.2.mem ((c.tc : Thread Cert.ReferenceIdeal.nD Cert.ReferenceIdeal.τ).loc Cert.ReferenceIdeal.main_v77_0) = v8 c
          ∧ r.2.mem ((c.tc : Thread Cert.ReferenceIdeal.nD Cert.ReferenceIdeal.τ).loc Cert.ReferenceIdeal.main_v77_1) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S9x1536x2304 : Shape := ⟨3, ![9, 1536, 2304]⟩
abbrev S9x1536x18 : Shape := ⟨3, ![9, 1536, 18]⟩
abbrev S9x1536x1536 : Shape := ⟨3, ![9, 1536, 1536]⟩
abbrev S9x2304x2304 : Shape := ⟨3, ![9, 2304, 2304]⟩
abbrev S9x1536 : Shape := ⟨2, ![9, 1536]⟩
abbrev S9x2304 : Shape := ⟨2, ![9, 2304]⟩
abbrev S9 : Shape := ⟨1, ![9]⟩
abbrev S9x1x1536 : Shape := ⟨3, ![9, 1, 1536]⟩
abbrev S9x1x2304 : Shape := ⟨3, ![9, 1, 2304]⟩
abbrev S1x1536x2304 : Shape := ⟨3, ![1, 1536, 2304]⟩
abbrev S1x1536x512 : Shape := ⟨3, ![1, 1536, 512]⟩
abbrev S1x1x512 : Shape := ⟨3, ![1, 1, 512]⟩
abbrev S1x2304x2304 : Shape := ⟨3, ![1, 2304, 2304]⟩
abbrev S1x1x2304 : Shape := ⟨3, ![1, 1, 2304]⟩
abbrev S1x512x2304 : Shape := ⟨3, ![1, 512, 2304]⟩
abbrev S1x512x18 : Shape := ⟨3, ![1, 512, 18]⟩
abbrev S512x2304 : Shape := ⟨2, ![512, 2304]⟩
abbrev S1 : Shape := ⟨1, ![1]⟩
abbrev S1536x512 : Shape := ⟨2, ![1536, 512]⟩
abbrev S1x512 : Shape := ⟨2, ![1, 512]⟩
abbrev S8x512 : Shape := ⟨2, ![8, 512]⟩
abbrev S512x8 : Shape := ⟨2, ![512, 8]⟩
abbrev S512x1 : Shape := ⟨2, ![512, 1]⟩
abbrev S1x1536x256 : Shape := ⟨3, ![1, 1536, 256]⟩
abbrev S1536x256 : Shape := ⟨2, ![1536, 256]⟩
abbrev S512x256 : Shape := ⟨2, ![512, 256]⟩
abbrev S512x18 : Shape := ⟨2, ![512, 18]⟩
abbrev S1x2304x256 : Shape := ⟨3, ![1, 2304, 256]⟩
abbrev S2304x256 : Shape := ⟨2, ![2304, 256]⟩
abbrev S1x1x256 : Shape := ⟨3, ![1, 1, 256]⟩
abbrev S1x256 : Shape := ⟨2, ![1, 256]⟩
abbrev S512x128 : Shape := ⟨2, ![512, 128]⟩
abbrev S1x512x128 : Shape := ⟨3, ![1, 512, 128]⟩
abbrev S512 : Shape := ⟨1, ![512]⟩
abbrev S1x256x1536 : Shape := ⟨3, ![1, 256, 1536]⟩
abbrev S1x1x1536 : Shape := ⟨3, ![1, 1, 1536]⟩
abbrev S1x256x2304 : Shape := ⟨3, ![1, 256, 2304]⟩
abbrev S256x2304 : Shape := ⟨2, ![256, 2304]⟩
abbrev S256x1536 : Shape := ⟨2, ![256, 1536]⟩
abbrev S1x1536 : Shape := ⟨2, ![1, 1536]⟩
abbrev S256x256 : Shape := ⟨2, ![256, 256]⟩
abbrev S1x2304 : Shape := ⟨2, ![1, 2304]⟩
abbrev S1x256x256 : Shape := ⟨3, ![1, 256, 256]⟩
abbrev S1x512x1536 : Shape := ⟨3, ![1, 512, 1536]⟩
abbrev S1x1536x1536 : Shape := ⟨3, ![1, 1536, 1536]⟩
abbrev S512x1536 : Shape := ⟨2, ![512, 1536]⟩
abbrev S1x512x256 : Shape := ⟨3, ![1, 512, 256]⟩
abbrev S1x384x2304 : Shape := ⟨3, ![1, 384, 2304]⟩
abbrev S384x2304 : Shape := ⟨2, ![384, 2304]⟩
abbrev S1x1536x384 : Shape := ⟨3, ![1, 1536, 384]⟩
abbrev S1536x384 : Shape := ⟨2, ![1536, 384]⟩
abbrev S1x384x256 : Shape := ⟨3, ![1, 384, 256]⟩
abbrev S384x256 : Shape := ⟨2, ![384, 256]⟩

abbrev nBuf : Space → Nat
  | .hbm => 30
  | .vmem => 72
  | .smem => 5
  | _ => 0

abbrev bufTy : (tb : Table) → Fin (tcTables nBuf tb) → BufTy
  | .hbm, ⟨0, _⟩ => ⟨S9x1536x2304, .f32⟩
  | .hbm, ⟨1, _⟩ => ⟨S9x1536x2304, .bf16⟩
  | .hbm, ⟨2, _⟩ => ⟨S9x1536x2304, .i8⟩
  | .hbm, ⟨3, _⟩ => ⟨S9x1536x18, .f32⟩
  | .hbm, ⟨4, _⟩ => ⟨S9x1536x2304, .i8⟩
  | .hbm, ⟨5, _⟩ => ⟨S9x1536x18, .f32⟩
  | .hbm, ⟨6, _⟩ => ⟨S9x1536x1536, .f32⟩
  | .hbm, ⟨7, _⟩ => ⟨S9x2304x2304, .f32⟩
  | .hbm, ⟨8, _⟩ => ⟨S9x1536x1536, .i8⟩
  | .hbm, ⟨9, _⟩ => ⟨S9x1536, .f32⟩
  | .hbm, ⟨10, _⟩ => ⟨S9x2304x2304, .i8⟩
  | .hbm, ⟨11, _⟩ => ⟨S9x2304, .f32⟩
  | .hbm, ⟨12, _⟩ => ⟨S9, .f32⟩
  | .hbm, ⟨13, _⟩ => ⟨S9, .f32⟩
  | .hbm, ⟨14, _⟩ => ⟨S9, .f32⟩
  | .hbm, ⟨15, _⟩ => ⟨S9, .f32⟩
  | .hbm, ⟨16, _⟩ => ⟨S9, .f32⟩
  | .hbm, ⟨17, _⟩ => ⟨S9x1x1536, .f32⟩
  | .hbm, ⟨18, _⟩ => ⟨S9x1x2304, .f32⟩
  | .hbm, ⟨19, _⟩ => ⟨S9x1536x2304, .i8⟩
  | .hbm, ⟨20, _⟩ => ⟨S9x1536x18, .f32⟩
  | .hbm, ⟨21, _⟩ => ⟨S9x1536x2304, .i8⟩
  | .hbm, ⟨22, _⟩ => ⟨S9x1536x18, .f32⟩
  | .hbm, ⟨23, _⟩ => ⟨S9x1536x2304, .bf16⟩
  | .hbm, ⟨24, _⟩ => ⟨S9x1536x2304, .f32⟩
  | .hbm, ⟨25, _⟩ => ⟨S9x1536x2304, .f32⟩
  | .hbm, ⟨26, _⟩ => ⟨S9x1536x1536, .f32⟩
  | .hbm, ⟨27, _⟩ => ⟨S9x1536x1536, .bf16⟩
  | .hbm, ⟨28, _⟩ => ⟨S9x2304x2304, .f32⟩
  | .hbm, ⟨29, _⟩ => ⟨S9x2304x2304, .bf16⟩
  | .local _ .vmem, ⟨0, _⟩ => ⟨S1x1536x2304, .bf16⟩
  | .local _ .vmem, ⟨1, _⟩ => ⟨S1x1536x2304, .bf16⟩
  | .local _ .vmem, ⟨2, _⟩ => ⟨S1x1536x512, .i8⟩
  | .local _ .vmem, ⟨3, _⟩ => ⟨S1x1536x512, .i8⟩
  | .local _ .vmem, ⟨4, _⟩ => ⟨S1x1x512, .f32⟩
  | .local _ .vmem, ⟨5, _⟩ => ⟨S1x1x512, .f32⟩
  | .local _ .vmem, ⟨6, _⟩ => ⟨S1x2304x2304, .i8⟩
  | .local _ .vmem, ⟨7, _⟩ => ⟨S1x2304x2304, .i8⟩
  | .local _ .vmem, ⟨8, _⟩ => ⟨S1x1x2304, .f32⟩
  | .local _ .vmem, ⟨9, _⟩ => ⟨S1x1x2304, .f32⟩
  | .local _ .vmem, ⟨10, _⟩ => ⟨S1x512x2304, .i8⟩
  | .local _ .vmem, ⟨11, _⟩ => ⟨S1x512x2304, .i8⟩
  | .local _ .vmem, ⟨12, _⟩ => ⟨S1x512x18, .f32⟩
  | .local _ .vmem, ⟨13, _⟩ => ⟨S1x512x18, .f32⟩
  | .local _ .vmem, ⟨14, _⟩ => ⟨S1x512x2304, .i8⟩
  | .local _ .vmem, ⟨15, _⟩ => ⟨S1x512x2304, .i8⟩
  | .local _ .vmem, ⟨16, _⟩ => ⟨S1x512x18, .f32⟩
  | .local _ .vmem, ⟨17, _⟩ => ⟨S1x512x18, .f32⟩
  | .local _ .vmem, ⟨18, _⟩ => ⟨S1x512x2304, .i8⟩
  | .local _ .vmem, ⟨19, _⟩ => ⟨S1x512x2304, .i8⟩
  | .local _ .vmem, ⟨20, _⟩ => ⟨S1x512x18, .f32⟩
  | .local _ .vmem, ⟨21, _⟩ => ⟨S1x512x18, .f32⟩
  | .local _ .vmem, ⟨22, _⟩ => ⟨S1x512x2304, .i8⟩
  | .local _ .vmem, ⟨23, _⟩ => ⟨S1x512x2304, .i8⟩
  | .local _ .vmem, ⟨24, _⟩ => ⟨S1x512x18, .f32⟩
  | .local _ .vmem, ⟨25, _⟩ => ⟨S1x512x18, .f32⟩
  | .local _ .vmem, ⟨26, _⟩ => ⟨S1x512x2304, .bf16⟩
  | .local _ .vmem, ⟨27, _⟩ => ⟨S1x512x2304, .bf16⟩
  | .local _ .vmem, ⟨28, _⟩ => ⟨S512x2304, .bf16⟩
  | .local _ .vmem, ⟨29, _⟩ => ⟨S1x1536x2304, .bf16⟩
  | .local _ .vmem, ⟨30, _⟩ => ⟨S1x1536x2304, .bf16⟩
  | .local _ .vmem, ⟨31, _⟩ => ⟨S1x256x1536, .i8⟩
  | .local _ .vmem, ⟨32, _⟩ => ⟨S1x256x1536, .i8⟩
  | .local _ .vmem, ⟨33, _⟩ => ⟨S1x1x1536, .f32⟩
  | .local _ .vmem, ⟨34, _⟩ => ⟨S1x1x1536, .f32⟩
  | .local _ .vmem, ⟨35, _⟩ => ⟨S1x2304x2304, .i8⟩
  | .local _ .vmem, ⟨36, _⟩ => ⟨S1x2304x2304, .i8⟩
  | .local _ .vmem, ⟨37, _⟩ => ⟨S1x1x2304, .f32⟩
  | .local _ .vmem, ⟨38, _⟩ => ⟨S1x1x2304, .f32⟩
  | .local _ .vmem, ⟨39, _⟩ => ⟨S1x256x2304, .f32⟩
  | .local _ .vmem, ⟨40, _⟩ => ⟨S1x256x2304, .f32⟩
  | .local _ .vmem, ⟨41, _⟩ => ⟨S1x256x2304, .f32⟩
  | .local _ .vmem, ⟨42, _⟩ => ⟨S1x256x2304, .f32⟩
  | .local _ .vmem, ⟨43, _⟩ => ⟨S1x256x2304, .f32⟩
  | .local _ .vmem, ⟨44, _⟩ => ⟨S1x256x2304, .f32⟩
  | .local _ .vmem, ⟨45, _⟩ => ⟨S256x2304, .bf16⟩
  | .local _ .vmem, ⟨46, _⟩ => ⟨S1x1536x2304, .bf16⟩
  | .local _ .vmem, ⟨47, _⟩ => ⟨S1x1536x2304, .bf16⟩
  | .local _ .vmem, ⟨48, _⟩ => ⟨S1x512x1536, .f32⟩
  | .local _ .vmem, ⟨49, _⟩ => ⟨S1x512x1536, .f32⟩
  | .local _ .vmem, ⟨50, _⟩ => ⟨S1x1536x1536, .i8⟩
  | .local _ .vmem, ⟨51, _⟩ => ⟨S1x1536x1536, .i8⟩
  | .local _ .vmem, ⟨52, _⟩ => ⟨S1x1x1536, .f32⟩
  | .local _ .vmem, ⟨53, _⟩ => ⟨S1x1x1536, .f32⟩
  | .local _ .vmem, ⟨54, _⟩ => ⟨S1x512x1536, .f32⟩
  | .local _ .vmem, ⟨55, _⟩ => ⟨S1x512x1536, .f32⟩
  | .local _ .vmem, ⟨56, _⟩ => ⟨S1x512x1536, .bf16⟩
  | .local _ .vmem, ⟨57, _⟩ => ⟨S1x512x1536, .bf16⟩
  | .local _ .vmem, ⟨58, _⟩ => ⟨S512x1536, .bf16⟩
  | .local _ .vmem, ⟨59, _⟩ => ⟨S1x1536x2304, .bf16⟩
  | .local _ .vmem, ⟨60, _⟩ => ⟨S1x1536x2304, .bf16⟩
  | .local _ .vmem, ⟨61, _⟩ => ⟨S1x384x2304, .f32⟩
  | .local _ .vmem, ⟨62, _⟩ => ⟨S1x384x2304, .f32⟩
  | .local _ .vmem, ⟨63, _⟩ => ⟨S1x2304x2304, .i8⟩
  | .local _ .vmem, ⟨64, _⟩ => ⟨S1x2304x2304, .i8⟩
  | .local _ .vmem, ⟨65, _⟩ => ⟨S1x1x2304, .f32⟩
  | .local _ .vmem, ⟨66, _⟩ => ⟨S1x1x2304, .f32⟩
  | .local _ .vmem, ⟨67, _⟩ => ⟨S1x384x2304, .f32⟩
  | .local _ .vmem, ⟨68, _⟩ => ⟨S1x384x2304, .f32⟩
  | .local _ .vmem, ⟨69, _⟩ => ⟨S1x384x2304, .bf16⟩
  | .local _ .vmem, ⟨70, _⟩ => ⟨S1x384x2304, .bf16⟩
  | .local _ .vmem, ⟨71, _⟩ => ⟨S384x2304, .bf16⟩
  | .local _ .smem, ⟨0, _⟩ => ⟨S9, .f32⟩
  | .local _ .smem, ⟨1, _⟩ => ⟨S9, .f32⟩
  | .local _ .smem, ⟨2, _⟩ => ⟨S9, .f32⟩
  | .local _ .smem, ⟨3, _⟩ => ⟨S9, .f32⟩
  | .local _ .smem, ⟨4, _⟩ => ⟨S9, .f32⟩
  | _, _ => ⟨S9x1536x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  ofTc nBuf bufTy 0 73 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2_0 : Ref sig .tc := ⟨.hbm, 19, rfl⟩
abbrev main_v2_1 : Ref sig .tc := ⟨.hbm, 20, rfl⟩
abbrev main_v2_2 : Ref sig .tc := ⟨.hbm, 21, rfl⟩
abbrev main_v2_3 : Ref sig .tc := ⟨.hbm, 22, rfl⟩
abbrev main_v2_4 : Ref sig .tc := ⟨.hbm, 23, rfl⟩
abbrev main_v3_0 : Ref sig .tc := ⟨.hbm, 24, rfl⟩
abbrev main_v3_1 : Ref sig .tc := ⟨.hbm, 25, rfl⟩
abbrev main_v4_0 : Ref sig .tc := ⟨.hbm, 26, rfl⟩
abbrev main_v4_1 : Ref sig .tc := ⟨.hbm, 27, rfl⟩
abbrev main_v5_0 : Ref sig .tc := ⟨.hbm, 28, rfl⟩
abbrev main_v5_1 : Ref sig .tc := ⟨.hbm, 29, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc1_stg2_0 : Ref sig .tc := ⟨.vmem, 29, rfl⟩
abbrev cc1_stg2_1 : Ref sig .tc := ⟨.vmem, 30, rfl⟩
abbrev cc1_stg3_0 : Ref sig .tc := ⟨.vmem, 31, rfl⟩
abbrev cc1_stg3_1 : Ref sig .tc := ⟨.vmem, 32, rfl⟩
abbrev cc1_stg4_0 : Ref sig .tc := ⟨.vmem, 33, rfl⟩
abbrev cc1_stg4_1 : Ref sig .tc := ⟨.vmem, 34, rfl⟩
abbrev cc1_stg5_0 : Ref sig .tc := ⟨.vmem, 35, rfl⟩
abbrev cc1_stg5_1 : Ref sig .tc := ⟨.vmem, 36, rfl⟩
abbrev cc1_stg6_0 : Ref sig .tc := ⟨.vmem, 37, rfl⟩
abbrev cc1_stg6_1 : Ref sig .tc := ⟨.vmem, 38, rfl⟩
abbrev cc1_stg7_0 : Ref sig .tc := ⟨.vmem, 39, rfl⟩
abbrev cc1_stg7_1 : Ref sig .tc := ⟨.vmem, 40, rfl⟩
abbrev cc1_stg8_0 : Ref sig .tc := ⟨.vmem, 41, rfl⟩
abbrev cc1_stg8_1 : Ref sig .tc := ⟨.vmem, 42, rfl⟩
abbrev cc1_stg9_0 : Ref sig .tc := ⟨.vmem, 43, rfl⟩
abbrev cc1_stg9_1 : Ref sig .tc := ⟨.vmem, 44, rfl⟩
abbrev cc1_scratch0 : Ref sig .tc := ⟨.vmem, 45, rfl⟩
abbrev cc2_stg0_0 : Ref sig .tc := ⟨.vmem, 46, rfl⟩
abbrev cc2_stg0_1 : Ref sig .tc := ⟨.vmem, 47, rfl⟩
abbrev cc2_stg1_0 : Ref sig .tc := ⟨.vmem, 48, rfl⟩
abbrev cc2_stg1_1 : Ref sig .tc := ⟨.vmem, 49, rfl⟩
abbrev cc2_stg2_0 : Ref sig .tc := ⟨.vmem, 50, rfl⟩
abbrev cc2_stg2_1 : Ref sig .tc := ⟨.vmem, 51, rfl⟩
abbrev cc2_stg3_0 : Ref sig .tc := ⟨.vmem, 52, rfl⟩
abbrev cc2_stg3_1 : Ref sig .tc := ⟨.vmem, 53, rfl⟩
abbrev cc2_stg4_0 : Ref sig .tc := ⟨.vmem, 54, rfl⟩
abbrev cc2_stg4_1 : Ref sig .tc := ⟨.vmem, 55, rfl⟩
abbrev cc2_stg5_0 : Ref sig .tc := ⟨.vmem, 56, rfl⟩
abbrev cc2_stg5_1 : Ref sig .tc := ⟨.vmem, 57, rfl⟩
abbrev cc2_scratch0 : Ref sig .tc := ⟨.vmem, 58, rfl⟩
abbrev cc3_stg0_0 : Ref sig .tc := ⟨.vmem, 59, rfl⟩
abbrev cc3_stg0_1 : Ref sig .tc := ⟨.vmem, 60, rfl⟩
abbrev cc3_stg1_0 : Ref sig .tc := ⟨.vmem, 61, rfl⟩
abbrev cc3_stg1_1 : Ref sig .tc := ⟨.vmem, 62, rfl⟩
abbrev cc3_stg2_0 : Ref sig .tc := ⟨.vmem, 63, rfl⟩
abbrev cc3_stg2_1 : Ref sig .tc := ⟨.vmem, 64, rfl⟩
abbrev cc3_stg3_0 : Ref sig .tc := ⟨.vmem, 65, rfl⟩
abbrev cc3_stg3_1 : Ref sig .tc := ⟨.vmem, 66, rfl⟩
abbrev cc3_stg4_0 : Ref sig .tc := ⟨.vmem, 67, rfl⟩
abbrev cc3_stg4_1 : Ref sig .tc := ⟨.vmem, 68, rfl⟩
abbrev cc3_stg5_0 : Ref sig .tc := ⟨.vmem, 69, rfl⟩
abbrev cc3_stg5_1 : Ref sig .tc := ⟨.vmem, 70, rfl⟩
abbrev cc3_scratch0 : Ref sig .tc := ⟨.vmem, 71, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc1_stg0_0 : Ref sig .tc := ⟨.smem, 3, rfl⟩
abbrev cc1_stg1_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc1_sem0_0 : DmaSem sig := 31
abbrev cc1_sem1_0 : DmaSem sig := 32
abbrev cc1_sem2_0 : DmaSem sig := 33
abbrev cc1_sem2_1 : DmaSem sig := 34
abbrev cc1_sem3_0 : DmaSem sig := 35
abbrev cc1_sem3_1 : DmaSem sig := 36
abbrev cc1_sem4_0 : DmaSem sig := 37
abbrev cc1_sem4_1 : DmaSem sig := 38
abbrev cc1_sem5_0 : DmaSem sig := 39
abbrev cc1_sem5_1 : DmaSem sig := 40
abbrev cc1_sem6_0 : DmaSem sig := 41
abbrev cc1_sem6_1 : DmaSem sig := 42
abbrev cc1_sem7_0 : DmaSem sig := 43
abbrev cc1_sem7_1 : DmaSem sig := 44
abbrev cc1_sem8_0 : DmaSem sig := 45
abbrev cc1_sem8_1 : DmaSem sig := 46
abbrev cc1_sem9_0 : DmaSem sig := 47
abbrev cc1_sem9_1 : DmaSem sig := 48
abbrev cc2_sem0_0 : DmaSem sig := 49
abbrev cc2_sem0_1 : DmaSem sig := 50
abbrev cc2_sem1_0 : DmaSem sig := 51
abbrev cc2_sem1_1 : DmaSem sig := 52
abbrev cc2_sem2_0 : DmaSem sig := 53
abbrev cc2_sem2_1 : DmaSem sig := 54
abbrev cc2_sem3_0 : DmaSem sig := 55
abbrev cc2_sem3_1 : DmaSem sig := 56
abbrev cc2_sem4_0 : DmaSem sig := 57
abbrev cc2_sem4_1 : DmaSem sig := 58
abbrev cc2_sem5_0 : DmaSem sig := 59
abbrev cc2_sem5_1 : DmaSem sig := 60
abbrev cc3_sem0_0 : DmaSem sig := 61
abbrev cc3_sem0_1 : DmaSem sig := 62
abbrev cc3_sem1_0 : DmaSem sig := 63
abbrev cc3_sem1_1 : DmaSem sig := 64
abbrev cc3_sem2_0 : DmaSem sig := 65
abbrev cc3_sem2_1 : DmaSem sig := 66
abbrev cc3_sem3_0 : DmaSem sig := 67
abbrev cc3_sem3_1 : DmaSem sig := 68
abbrev cc3_sem4_0 : DmaSem sig := 69
abbrev cc3_sem4_1 : DmaSem sig := 70
abbrev cc3_sem5_0 : DmaSem sig := 71
abbrev cc3_sem5_1 : DmaSem sig := 72

abbrev nD : Nat := 1
abbrev τ : Topo := Topo.v7x

variable {F : FTy → Type} [FloatOps F]

abbrev grid0 : Pipeline.Grid := ⟨2, ![9, 3], ![false, false]⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S9 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1536x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1536x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2304x2304 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x2304 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x18 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x2304 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x18 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x2304 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x18 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x2304 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x18 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x2304 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev grid1 : Pipeline.Grid := ⟨2, ![9, 6], ![false, false]⟩

def k1_off1 (i : grid1.Coords) : Fin 1 → Nat :=
  let arg0 : BitVec 32 := BitVec.ofNat 32 (i 0).val
  let v0 : Index := Scalar.indexCast arg0
  ![v0.toNat]
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 1 → Memref sig .tc .smem S9 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .smem S9 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1536x2304 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x1536 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x1536 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x2304x2304 .i8 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1x2304 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x256x2304 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x256x2304 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x256x2304 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev grid2 : Pipeline.Grid := ⟨2, ![9, 3], ![false, false]⟩

def k2_mult1 (i : grid2.Coords) : BitVec 32 :=
  let arg1 : BitVec 32 := BitVec.ofNat 32 (i 1).val
  let c512_i32 : BitVec 32 := 512#32
  let v0 : BitVec 32 := Scalar.muli arg1 c512_i32
  v0
def k2_off1 (i : grid2.Coords) : Fin 3 → Nat :=
  let c0 : Index := 0#32
  let arg1 : BitVec 32 := BitVec.ofNat 32 (i 1).val
  let c512_i32 : BitVec 32 := 512#32
  let v0 : BitVec 32 := Scalar.muli arg1 c512_i32
  let v1 : BitVec 32 := v0
  let v2 : Index := Scalar.indexCast v1
  let c0_0 : Index := 0#32
  ![0, v2.toNat, 0]
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1536x2304 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x512x1536 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1536x1536 .i8 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1x1536 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x512x1536 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x512x1536 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![9, 6], ![false, false]⟩

def k3_mult1 (i : grid3.Coords) : BitVec 32 :=
  let arg1 : BitVec 32 := BitVec.ofNat 32 (i 1).val
  let c384_i32 : BitVec 32 := 384#32
  let v0 : BitVec 32 := Scalar.muli arg1 c384_i32
  v0
def k3_off1 (i : grid3.Coords) : Fin 3 → Nat :=
  let c0 : Index := 0#32
  let c0_0 : Index := 0#32
  let arg1 : BitVec 32 := BitVec.ofNat 32 (i 1).val
  let c384_i32 : BitVec 32 := 384#32
  let v0 : BitVec 32 := Scalar.muli arg1 c384_i32
  let v1 : BitVec 32 := v0
  let v2 : Index := Scalar.indexCast v1
  ![0, 0, v2.toNat]
def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x1536x2304 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x384x2304 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x2304x2304 .i8 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x1x2304 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x384x2304 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x384x2304 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]
-- ==== ReferenceIdeal.lean ====
abbrev S9x1536x2304 : Shape := ⟨3, ![9, 1536, 2304]⟩
abbrev S9x1536x18 : Shape := ⟨3, ![9, 1536, 18]⟩
abbrev S9x1536x1536 : Shape := ⟨3, ![9, 1536, 1536]⟩
abbrev S9x2304x2304 : Shape := ⟨3, ![9, 2304, 2304]⟩
abbrev S9x1536 : Shape := ⟨2, ![9, 1536]⟩
abbrev S9x2304 : Shape := ⟨2, ![9, 2304]⟩
abbrev S9 : Shape := ⟨1, ![9]⟩
abbrev S9x1536x1 : Shape := ⟨3, ![9, 1536, 1]⟩
abbrev S9x1x2304 : Shape := ⟨3, ![9, 1, 2304]⟩
abbrev S9x1536x18x128 : Shape := ⟨4, ![9, 1536, 18, 128]⟩
abbrev S9x1536x18x1 : Shape := ⟨4, ![9, 1536, 18, 1]⟩
abbrev S_ : Shape := ⟨0, ![]⟩
abbrev S9x1x1 : Shape := ⟨3, ![9, 1, 1]⟩
abbrev S9x1x1536 : Shape := ⟨3, ![9, 1, 1536]⟩

abbrev nBuf : Space → Nat
  | .hbm => 167
  | .vmem => 0
  | .smem => 0
  | _ => 0

abbrev hbmTy0_0 (i : Nat) : BufTy := match i % 128 with
  | 0 => ⟨S9x1536x2304, .f32⟩
  | 1 => ⟨S9x1536x2304, .bf16⟩
  | 2 => ⟨S9x1536x2304, .i8⟩
  | 3 => ⟨S9x1536x18, .f32⟩
  | 4 => ⟨S9x1536x2304, .i8⟩
  | 5 => ⟨S9x1536x18, .f32⟩
  | 6 => ⟨S9x1536x1536, .f32⟩
  | 7 => ⟨S9x2304x2304, .f32⟩
  | 8 => ⟨S9x1536x1536, .i8⟩
  | 9 => ⟨S9x1536, .f32⟩
  | 10 => ⟨S9x2304x2304, .i8⟩
  | 11 => ⟨S9x2304, .f32⟩
  | 12 => ⟨S9, .f32⟩
  | 13 => ⟨S9, .f32⟩
  | 14 => ⟨S9, .f32⟩
  | 15 => ⟨S9, .f32⟩
  | 16 => ⟨S9, .f32⟩
  | 17 => ⟨S9x1536x1536, .i32⟩
  | 18 => ⟨S9x1536x1536, .bf16⟩
  | 19 => ⟨S9x2304x2304, .i32⟩
  | 20 => ⟨S9x2304x2304, .bf16⟩
  | 21 => ⟨S9x1536x2304, .f32⟩
  | 22 => ⟨S9x1536x1, .f32⟩
  | 23 => ⟨S9x1536x2304, .f32⟩
  | 24 => ⟨S9x1536x2304, .f32⟩
  | 25 => ⟨S9x1536x2304, .bf16⟩
  | 26 => ⟨S9x1536x2304, .f32⟩
  | 27 => ⟨S9x1x2304, .f32⟩
  | 28 => ⟨S9x1536x2304, .f32⟩
  | 29 => ⟨S9x1536x2304, .f32⟩
  | 30 => ⟨S9x1536x2304, .i32⟩
  | 31 => ⟨S9x1536x2304, .f32⟩
  | 32 => ⟨S9x1536x18x128, .f32⟩
  | 33 => ⟨S9x1536x18x1, .f32⟩
  | 34 => ⟨S9x1536x18x128, .f32⟩
  | 35 => ⟨S9x1536x18x128, .f32⟩
  | 36 => ⟨S9x1536x2304, .f32⟩
  | 37 => ⟨S_, .f32⟩
  | 38 => ⟨S9x1536x2304, .f32⟩
  | 39 => ⟨S9x1536x2304, .f32⟩
  | 40 => ⟨S_, .f32⟩
  | 41 => ⟨S9x1536x2304, .f32⟩
  | 42 => ⟨S9x1536x2304, .f32⟩
  | 43 => ⟨S9x1536x2304, .f32⟩
  | 44 => ⟨S9x1536x18x128, .f32⟩
  | 45 => ⟨S9x1536x18x128, .f32⟩
  | 46 => ⟨S_, .f32⟩
  | 47 => ⟨S9x1536x18, .f32⟩
  | 48 => ⟨S_, .f32⟩
  | 49 => ⟨S9x1536x18, .f32⟩
  | 50 => ⟨S9x1536x18, .f32⟩
  | 51 => ⟨S9x1536x18x1, .f32⟩
  | 52 => ⟨S9x1536x18x128, .f32⟩
  | 53 => ⟨S9x1536x18x128, .f32⟩
  | 54 => ⟨S9x1536x18x128, .f32⟩
  | 55 => ⟨S_, .i32⟩
  | 56 => ⟨S_, .i32⟩
  | 57 => ⟨S_, .f32⟩
  | 58 => ⟨S9x1536x18x128, .f32⟩
  | 59 => ⟨S9x1536x18x128, .f32⟩
  | 60 => ⟨S_, .f32⟩
  | 61 => ⟨S9x1536x18x128, .f32⟩
  | 62 => ⟨S9x1536x18x128, .f32⟩
  | 63 => ⟨S9x1536x18x128, .i32⟩
  | 64 => ⟨S9x1536x18x128, .i8⟩
  | 65 => ⟨S9x1536x2304, .i8⟩
  | 66 => ⟨S9x1536x2304, .i8⟩
  | 67 => ⟨S9x1536x18, .f32⟩
  | 68 => ⟨S9x1536x2304, .i32⟩
  | 69 => ⟨S9x1536x2304, .f32⟩
  | 70 => ⟨S9x1536x18x128, .f32⟩
  | 71 => ⟨S9x1536x18x1, .f32⟩
  | 72 => ⟨S9x1536x18x128, .f32⟩
  | 73 => ⟨S9x1536x18x128, .f32⟩
  | 74 => ⟨S9x1536x2304, .f32⟩
  | 75 => ⟨S_, .f32⟩
  | 76 => ⟨S9x1536x2304, .f32⟩
  | 77 => ⟨S9x1536x2304, .f32⟩
  | 78 => ⟨S9x1536x2304, .f32⟩
  | 79 => ⟨S_, .f32⟩
  | 80 => ⟨S9x1536x2304, .f32⟩
  | 81 => ⟨S9x1536x2304, .f32⟩
  | 82 => ⟨S9x1536x2304, .f32⟩
  | 83 => ⟨S9x1536x2304, .f32⟩
  | 84 => ⟨S9x1x1, .f32⟩
  | 85 => ⟨S9x1536x2304, .f32⟩
  | 86 => ⟨S9x1536x2304, .f32⟩
  | 87 => ⟨S9x1x1, .f32⟩
  | 88 => ⟨S9x1536x2304, .f32⟩
  | 89 => ⟨S9x1536x2304, .f32⟩
  | 90 => ⟨S9x1536x2304, .f32⟩
  | 91 => ⟨S9x1x1, .f32⟩
  | 92 => ⟨S9x1536x2304, .f32⟩
  | 93 => ⟨S9x1536x2304, .f32⟩
  | 94 => ⟨S9x1536x2304, .f32⟩
  | 95 => ⟨S9x1536x2304, .f32⟩
  | 96 => ⟨S9x1536x18x128, .f32⟩
  | 97 => ⟨S_, .f32⟩
  | 98 => ⟨S9x1536x18, .f32⟩
  | 99 => ⟨S_, .f32⟩
  | 100 => ⟨S9x1536x18, .f32⟩
  | 101 => ⟨S9x1536x18, .f32⟩
  | 102 => ⟨S9x1536x18x1, .f32⟩
  | 103 => ⟨S9x1536x18x128, .f32⟩
  | 104 => ⟨S9x1536x18x128, .f32⟩
  | 105 => ⟨S9x1536x18x128, .f32⟩
  | 106 => ⟨S_, .i32⟩
  | 107 => ⟨S_, .i32⟩
  | 108 => ⟨S_, .f32⟩
  | 109 => ⟨S9x1536x18x128, .f32⟩
  | 110 => ⟨S9x1536x18x128, .f32⟩
  | 111 => ⟨S_, .f32⟩
  | 112 => ⟨S9x1536x18x128, .f32⟩
  | 113 => ⟨S9x1536x18x128, .f32⟩
  | 114 => ⟨S9x1536x18x128, .i32⟩
  | 115 => ⟨S9x1536x18x128, .i8⟩
  | 116 => ⟨S9x1536x2304, .i8⟩
  | 117 => ⟨S9x1536x2304, .i8⟩
  | 118 => ⟨S9x1536x18, .f32⟩
  | 119 => ⟨S9x1536, .bf16⟩
  | 120 => ⟨S9x1x1536, .bf16⟩
  | 121 => ⟨S9x1536x1536, .bf16⟩
  | 122 => ⟨S9x1536x1536, .bf16⟩
  | 123 => ⟨S9x2304, .bf16⟩
  | 124 => ⟨S9x1x2304, .bf16⟩
  | 125 => ⟨S9x2304x2304, .bf16⟩
  | 126 => ⟨S9x2304x2304, .bf16⟩
  | 127 => ⟨S9x1536x2304, .bf16⟩
  | _ => ⟨S9x1536x2304, .f32⟩

abbrev hbmTy0_1 (i : Nat) : BufTy := match i % 128 with
  | 0 => ⟨S9x1536x2304, .f32⟩
  | 1 => ⟨S9x1536x2304, .bf16⟩
  | 2 => ⟨S9x1536x2304, .f32⟩
  | 3 => ⟨S9x1x1, .f32⟩
  | 4 => ⟨S9x1x1, .f32⟩
  | 5 => ⟨S9x1536x2304, .f32⟩
  | 6 => ⟨S9x1536x2304, .f32⟩
  | 7 => ⟨S9x1536x2304, .f32⟩
  | 8 => ⟨S9x1536x2304, .f32⟩
  | 9 => ⟨S9x1536x2304, .f32⟩
  | 10 => ⟨S9x1536x2304, .f32⟩
  | 11 => ⟨S_, .f32⟩
  | 12 => ⟨S9x1536x1536, .f32⟩
  | 13 => ⟨S9x1536x1536, .f32⟩
  | 14 => ⟨S9x1536x1536, .f32⟩
  | 15 => ⟨S_, .f32⟩
  | 16 => ⟨S9x1536x1536, .f32⟩
  | 17 => ⟨S9x1536x1536, .f32⟩
  | 18 => ⟨S9x1536x1536, .f32⟩
  | 19 => ⟨S_, .f32⟩
  | 20 => ⟨S9x2304x2304, .f32⟩
  | 21 => ⟨S9x2304x2304, .f32⟩
  | 22 => ⟨S9x2304x2304, .f32⟩
  | 23 => ⟨S_, .f32⟩
  | 24 => ⟨S9x2304x2304, .f32⟩
  | 25 => ⟨S9x2304x2304, .f32⟩
  | 26 => ⟨S9x2304x2304, .f32⟩
  | 27 => ⟨S9x1536x1536, .bf16⟩
  | 28 => ⟨S9x1536x1536, .f32⟩
  | 29 => ⟨S9x1x1536, .f32⟩
  | 30 => ⟨S9x1536x1536, .f32⟩
  | 31 => ⟨S9x1536x1536, .f32⟩
  | 32 => ⟨S9x1536x1536, .bf16⟩
  | 33 => ⟨S9x2304x2304, .bf16⟩
  | 34 => ⟨S9x2304x2304, .f32⟩
  | 35 => ⟨S9x1x2304, .f32⟩
  | 36 => ⟨S9x2304x2304, .f32⟩
  | 37 => ⟨S9x2304x2304, .f32⟩
  | 38 => ⟨S9x2304x2304, .bf16⟩
  | _ => ⟨S9x1536x2304, .f32⟩

abbrev hbmTy (i : Nat) : BufTy := match i / 128 with
  | 0 => hbmTy0_0 i
  | 1 => hbmTy0_1 i
  | _ => ⟨S9x1536x2304, .f32⟩

abbrev bufTy : (tb : Table) → Fin (tcTables nBuf tb) → BufTy
  | .hbm, ⟨i, _⟩ => hbmTy i
  | _, _ => ⟨S9x1536x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_cst_0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_1 : Ref sig .tc := ⟨.hbm, 46, rfl⟩
abbrev main_v27 : Ref sig .tc := ⟨.hbm, 47, rfl⟩
abbrev main_cst_2 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c : Ref sig .tc := ⟨.hbm, 55, rfl⟩
abbrev main_c_3 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38_0 : Ref sig .tc := ⟨.hbm, 66, rfl⟩
abbrev main_v38_1 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_4 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_5 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_6 : Ref sig .tc := ⟨.hbm, 97, rfl⟩
abbrev main_v66 : Ref sig .tc := ⟨.hbm, 98, rfl⟩
abbrev main_cst_7 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_8 : Ref sig .tc := ⟨.hbm, 106, rfl⟩
abbrev main_c_9 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77_0 : Ref sig .tc := ⟨.hbm, 117, rfl⟩
abbrev main_v77_1 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_10 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_11 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_12 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_13 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩

abbrev nD : Nat := 1
abbrev τ : Topo := Topo.v7x

variable {F : FTy → Type} [FloatOps F]
-- ==== Proof.Blocks.lean ====
/- How the blocks of the four pipelined kernels are read: an index of a store's rectangle in the block, and the first row
   of a step's rows in its array. -/
module

public import Idealize.ShloMosaic.Lib.Pointwise
public import Idealize.ShloMosaic.Lib.Pipeline.ValueKit.Tiles

@[expose] public section

namespace Cert.Soap

open Idealize.ShloMosaic

/-- The index of the array that index `x` of a unit-stride rectangle names, of rank 2, -/
theorem emb_unit2 {n0 n1 o0 o1 s0 s1 : ℕ} (h) (a : Fin s0) (b : Fin s1) :
    (Rect.unit (s := ⟨2, ![n0, n1]⟩) ![o0, o1] ![s0, s1] h).emb (ix2 a b)
      = ix2 (⟨o0 + a.val, by have := h 0; simp at this; omega⟩ : Fin n0) (⟨o1 + b.val, by have := h 1; simp at this; omega⟩ : Fin n1) := by
  funext i
  apply Fin.ext
  refine (Rect.idx_unit_val ..).trans ?_
  match i with
  | ⟨0, _⟩ => rfl
  | ⟨1, _⟩ => rfl

/-- and of rank 3. -/
theorem emb_unit3 {n0 n1 n2 o0 o1 o2 s0 s1 s2 : ℕ} (h) (a : Fin s0) (b : Fin s1) (c : Fin s2) :
    (Rect.unit (s := ⟨3, ![n0, n1, n2]⟩) ![o0, o1, o2] ![s0, s1, s2] h).emb (ix3 a b c)
      = ix3 (⟨o0 + a.val, by have := h 0; simp at this; omega⟩ : Fin n0) (⟨o1 + b.val, by have := h 1; simp at this; omega⟩ : Fin n1)
          (⟨o2 + c.val, by have := h 2; simp at this; omega⟩ : Fin n2) := by
  funext i
  apply Fin.ext
  refine (Rect.idx_unit_val ..).trans ?_
  match i with
  | ⟨0, _⟩ => rfl
  | ⟨1, _⟩ => rfl
  | ⟨2, _⟩ => rfl

/-- The first of the rows of the step at second grid coordinate `n`, `k` rows to a step. -/
theorem row_offset (n k : ℕ) (hn : n < 64) (hk : k < 4096) :
    (Scalar.indexCast (Scalar.muli (BitVec.ofNat 32 n) (BitVec.ofNat 32 k))).toNat = k * n := by
  show ((BitVec.ofNat 32 n) * BitVec.ofNat 32 k).toNat = _
  have : n * k < 2 ^ 32 := by nlinarith
  rw [BitVec.toNat_mul, BitVec.toNat_ofNat, BitVec.toNat_ofNat, Nat.mod_eq_of_lt (by omega : n < 2 ^ 32),
    Nat.mod_eq_of_lt (by omega : k < 2 ^ 32), Nat.mod_eq_of_lt this, Nat.mul_comm]

/-- A batch entry's number, as a kernel computes it to read a scalar. -/
theorem batch_index (n : ℕ) (hn : n < 64) : (Scalar.indexCast (BitVec.ofNat 32 n)).toNat = n := by
  show (BitVec.ofNat 32 n).toNat = n
  rw [BitVec.toNat_ofNat, Nat.mod_eq_of_lt (by omega)]

/-- Row `r` of the rows of step `i`, `k` rows to a step. -/
def srow {N : ℕ} (k n : ℕ) (h : n * k = N) (i : Fin n) (r : Fin k) : Fin N :=
  ⟨k * i.val + r.val, by have := i.isLt; have := r.isLt; subst h; nlinarith⟩

/-- Row `r` of step `i` of a block of `k` rows, with the block's number as the window computes it. -/
theorem srow_val {N : ℕ} (k n : ℕ) (h : n * k = N) (hn : n < 64) (i : Fin n) (r : Fin k) :
    (srow k n h i r : Fin N).val = (BitVec.ofNat 32 i.val).toNat * k + r.val := by
  have := i.isLt
  rw [BitVec.toNat_ofNat, Nat.mod_eq_of_lt (by omega), Nat.mul_comm]
  rfl

/-- Every row is a row of some step. -/
theorem srow_surj {N : ℕ} (k n : ℕ) (h : n * k = N) (y : Fin N) : ∃ i r, y = srow k n h i r := by
  subst h
  have hy := y.isLt
  have hk : 0 < k := by rcases Nat.eq_zero_or_pos k with rfl | h <;> omega
  refine ⟨⟨y.val / k, Nat.div_lt_of_lt_mul (hy.trans_eq (Nat.mul_comm n k))⟩, ⟨y.val % k, Nat.mod_lt _ hk⟩, Fin.ext ?_⟩
  exact (Nat.div_add_mod _ _).symm

/-- A block's number along an axis that it moves along one by one. -/
theorem word_val {n : ℕ} (hn : n < 64) (i : Fin n) : i.val = (BitVec.ofNat 32 i.val).toNat * 1 + 0 := by
  have := i.isLt
  rw [Nat.mul_one, Nat.add_zero, BitVec.toNat_ofNat, Nat.mod_eq_of_lt (by omega)]

/-- The index of the array that an index of a window's block names, of rank 1, -/
theorem blk_idx1 {n0 s0 : ℕ} (off : Fin 1 → ℕ) (h) (a : Fin s0) (i : Fin n0) (h0 : i.val = off 0 + a.val) :
    (Rect.unit (s := ⟨1, ![n0]⟩) off ![s0] h).emb (ix1 a) = ix1 i := by
  funext x
  apply Fin.ext
  refine (Rect.idx_unit_val ..).trans ?_
  match x with
  | ⟨0, _⟩ => exact h0.symm

/-- and of rank 3, by its coordinates. -/
theorem blk_idx3 {n0 n1 n2 s0 s1 s2 : ℕ} (off : Fin 3 → ℕ) (h) (a : Fin s0) (b : Fin s1) (c : Fin s2) (i : Fin n0) (j : Fin n1) (k : Fin n2)
    (h0 : i.val = off 0 + a.val) (h1 : j.val = off 1 + b.val) (h2 : k.val = off 2 + c.val) :
    (Rect.unit (s := ⟨3, ![n0, n1, n2]⟩) off ![s0, s1, s2] h).emb (ix3 a b c) = ix3 i j k := by
  funext x
  apply Fin.ext
  refine (Rect.idx_unit_val ..).trans ?_
  match x with
  | ⟨0, _⟩ => exact h0.symm
  | ⟨1, _⟩ => exact h1.symm
  | ⟨2, _⟩ => exact h2.symm

end Cert.Soap
-- ==== Proof.Spec.lean ====
/- One step of the optimizer in exact arithmetic, coordinate by coordinate: the functions that both programs are shown to
   compute. Nothing here mentions a program. An array enters as a function of its coordinates; a quantity that depends on
   one row of the rotated gradient only is stated over the data of that row (`FwdRow`). -/
module

public import Idealize.ShloMosaic.Lib.Pointwise

@[expose] public section

noncomputable section

namespace Cert.Soap

open Idealize.ShloMosaic

/-- A signed 8-bit code as a number. -/
def code (x : BitVec 8) : EReal := ((x.toInt : ℝ) : EReal)

/-- An unsigned 8-bit code as a number. -/
def ucode (x : BitVec 8) : EReal := (((x.setWidth 32).toInt : ℝ) : EReal)

/-- The number a 32-bit float constant of the programs denotes. -/
abbrev lit (w : BitVec 32) : EReal := Ideal.ofBits .f32 w

/-- A number's magnitude. -/
def mag (x : EReal) : EReal := max x (-x)

/-- The 128-wide column block that column `l` lies in. -/
def blk (l : Fin 2304) : Fin 18 := ⟨l.val / 128, by omega⟩

/-- Column `h` of block `q`. -/
def cell (q : Fin 18) (h : Fin 128) : Fin 2304 := ⟨q.val * 128 + h.val, by omega⟩

/-- A column of block `q` lies in block `q`. -/
theorem blk_cell (q : Fin 18) (h : Fin 128) : blk (cell q h) = q := Fin.ext (by simp only [blk, cell]; omega)

/-- `x` rounded to the nearest integer (ties to even), then confined to `[lo, hi]`. -/
def clipRound (lo hi : BitVec 32) (x : EReal) : EReal :=
  min ((hi.toInt : ℝ) : EReal) (max ((lo.toInt : ℝ) : EReal) (Ideal.liftRound Ideal.roundHalfEven x))

/-- The signed 8-bit code of `x`. -/
def quant (x : EReal) : BitVec 8 := (Ideal.fptosi 32 (clipRound 4294967169#32 127#32 x)).setWidth 8

/-- The unsigned 8-bit code of `x`. -/
def uquant (x : EReal) : BitVec 8 := (Ideal.fptosi 32 (clipRound 0#32 255#32 x)).setWidth 8

/-- What one row of the rotated gradient and its moments depend on: the gradient `g` of the batch entry, the row's column
    `q` of left basis codes with its scale `s`, the right basis codes `R` with their column scales `rs`, the row's moment
    codes and block scales (`mc`, `ms` and `vc`, `vs`), and the three scalars. -/
structure FwdRow where
  g : Fin 1536 → Fin 2304 → EReal
  q : Fin 1536 → BitVec 8
  s : EReal
  R : Fin 2304 → Fin 2304 → BitVec 8
  rs : Fin 2304 → EReal
  mc : Fin 2304 → BitVec 8
  ms : Fin 18 → EReal
  vc : Fin 2304 → BitVec 8
  vs : Fin 18 → EReal
  c1 : EReal
  c2 : EReal
  eps : EReal

namespace FwdRow

variable (x : FwdRow)

/-- The gradient rotated from the left. -/
def t (k : Fin 2304) : EReal := (∑ i : Fin 1536, code (x.q i) * x.g i k) * x.s

/-- The gradient rotated from both sides. -/
def gr (l : Fin 2304) : EReal := (∑ k : Fin 2304, x.t k * code (x.R k l)) * x.rs l

/-- The first moment. -/
def mr (l : Fin 2304) : EReal :=
  lit 0x3F666666#32 * (code (x.mc l) * x.ms (blk l)) + lit 0x3DCCCCCD#32 * x.gr l

/-- The first moment's scale in block `q`: its greatest magnitude there over 127. -/
def mscale (q : Fin 18) : EReal :=
  Ideal.div (Finset.univ.fold max (lit 0xFF800000#32) fun h : Fin 128 => mag (x.mr (cell q h))) (lit 0x42FE0000#32)

/-- The first moment's code. -/
def mcode (l : Fin 2304) : BitVec 8 := quant (Ideal.div (x.mr l) (x.mscale (blk l)))

/-- The second moment. -/
def v (l : Fin 2304) : EReal :=
  lit 0x3F733333#32 * (ucode (x.vc l) * x.vs (blk l)) * (ucode (x.vc l) * x.vs (blk l))
    + lit 0x3D4CCCCD#32 * x.gr l * x.gr l

/-- The normalized direction, in the rotated coordinates. -/
def n (l : Fin 2304) : EReal :=
  Ideal.div (Ideal.div (x.mr l) x.c1) (Ideal.sqrt (Ideal.div (x.v l) x.c2) + x.eps)

/-- The scale of the second moment's square root in block `q`: its greatest value there over 255. -/
def vscale (q : Fin 18) : EReal :=
  Ideal.div (Finset.univ.fold max (lit 0xFF800000#32) fun h : Fin 128 => Ideal.sqrt (x.v (cell q h))) (lit 0x437F0000#32)

/-- The code of the second moment's square root. -/
def vcode (l : Fin 2304) : BitVec 8 := uquant (Ideal.div (Ideal.sqrt (x.v l)) (x.vscale (blk l)))

end FwdRow

/-- The program's arguments, each as a function of its coordinates. -/
structure Args where
  w : Fin 9 → Fin 1536 → Fin 2304 → EReal
  g : Fin 9 → Fin 1536 → Fin 2304 → EReal
  mc : Fin 9 → Fin 1536 → Fin 2304 → BitVec 8
  ms : Fin 9 → Fin 1536 → Fin 18 → EReal
  vc : Fin 9 → Fin 1536 → Fin 2304 → BitVec 8
  vs : Fin 9 → Fin 1536 → Fin 18 → EReal
  l : Fin 9 → Fin 1536 → Fin 1536 → EReal
  r : Fin 9 → Fin 2304 → Fin 2304 → EReal
  ql : Fin 9 → Fin 1536 → Fin 1536 → BitVec 8
  qls : Fin 9 → Fin 1536 → EReal
  qr : Fin 9 → Fin 2304 → Fin 2304 → BitVec 8
  qrs : Fin 9 → Fin 2304 → EReal
  c1 : Fin 9 → EReal
  c2 : Fin 9 → EReal
  eps : Fin 9 → EReal
  lr : Fin 9 → EReal
  wd : Fin 9 → EReal

namespace Args

variable (a : Args) (b : Fin 9)

/-- The data of row `j` of the rotated gradient of batch entry `b`. -/
def row (j : Fin 1536) : FwdRow where
  g := a.g b
  q := fun i => a.ql b i j
  s := a.qls b j
  R := a.qr b
  rs := a.qrs b
  mc := a.mc b j
  ms := a.ms b j
  vc := a.vc b j
  vs := a.vs b j
  c1 := a.c1 b
  c2 := a.c2 b
  eps := a.eps b

/-- The direction rotated back from the left. -/
def p (i : Fin 1536) (l : Fin 2304) : EReal :=
  ∑ j : Fin 1536, code (a.ql b i j) * a.qls b j * (a.row b j).n l

/-- The update. -/
def u (i : Fin 1536) (k : Fin 2304) : EReal :=
  ∑ l : Fin 2304, a.p b i l * (code (a.qr b k l) * a.qrs b l)

/-- The new weight. -/
def wnew (i : Fin 1536) (k : Fin 2304) : EReal :=
  a.w b i k - a.lr b * (a.u b i k + a.wd b * a.w b i k)

/-- The new left statistic. -/
def lnew (i j : Fin 1536) : EReal :=
  lit 0x3F733333#32 * a.l b i j + lit 0x3D4CCCCD#32 * ∑ k : Fin 2304, a.g b i k * a.g b j k

/-- The new right statistic. -/
def rnew (k l : Fin 2304) : EReal :=
  lit 0x3F733333#32 * a.r b k l + lit 0x3D4CCCCD#32 * ∑ i : Fin 1536, a.g b i k * a.g b i l

/-- The new left statistic applied to the left basis. -/
def pl (i j : Fin 1536) : EReal := (∑ k : Fin 1536, a.lnew b i k * code (a.ql b k j)) * a.qls b j

/-- The new right statistic applied to the right basis. -/
def pr (i j : Fin 2304) : EReal := (∑ k : Fin 2304, a.rnew b i k * code (a.qr b k j)) * a.qrs b j

end Args

end Cert.Soap

end
-- ==== Proof.KernelArgs.lean ====
/- The arrays that the four pipelined kernels read, as functions of their coordinates. -/
module

public import proofs.«01_k».proof.Proof.Gen.KernelIdeal.Frame
public import proofs.«01_k».proof.Proof.Blocks
public import proofs.«01_k».proof.Proof.Spec

@[expose] public section

noncomputable section

namespace Cert.KernelIdeal.Soap

open Idealize.ShloMosaic Idealize.ShloMosaic.TcCoe Idealize.SL.Sem Cert.KernelIdeal Cert.KernelIdeal.Gen Cert.Soap

/-- The arguments as the pipelined kernels find them: a basis' column scales are those of the array with a unit axis. -/
def kargs (V : (c : Dev nD) → (b : Ref sig .tc) → Buf (Elt Ideal) ((c.tc : Thread nD τ).loc b)) (c : Dev nD) : Args where
  w := fun b i j => V c main_arg0 (ix3 b i j)
  g := fun b i j => V c main_arg1 (ix3 b i j)
  mc := fun b i j => V c main_arg2 (ix3 b i j)
  ms := fun b i j => V c main_arg3 (ix3 b i j)
  vc := fun b i j => V c main_arg4 (ix3 b i j)
  vs := fun b i j => V c main_arg5 (ix3 b i j)
  l := fun b i j => V c main_arg6 (ix3 b i j)
  r := fun b i j => V c main_arg7 (ix3 b i j)
  ql := fun b i j => V c main_arg8 (ix3 b i j)
  qls := fun b i => V c main_v0 (ix3 b 0 i)
  qr := fun b i j => V c main_arg10 (ix3 b i j)
  qrs := fun b i => V c main_v1 (ix3 b 0 i)
  c1 := fun b => V c main_arg12 (ix1 b)
  c2 := fun b => V c main_arg13 (ix1 b)
  eps := fun b => V c main_arg14 (ix1 b)
  lr := fun b => V c main_arg15 (ix1 b)
  wd := fun b => V c main_arg16 (ix1 b)

end Cert.KernelIdeal.Soap

end
-- ==== Proof.Left.lean ====
/- The left statistic's kernel: what its two result arrays hold when it ends. -/
module

public import proofs.«01_k».proof.Proof.KernelArgs
public import Idealize.ShloMosaic.Lib.Pipeline.Covers

@[expose] public section

set_option maxRecDepth 16384

noncomputable section

namespace Cert.KernelIdeal.Soap

open Idealize.ShloMosaic Idealize.ShloMosaic.TcCoe Idealize.SL.Sem Cert.KernelIdeal Cert.KernelIdeal.Gen Cert.Soap

variable (V : (c : Dev nD) → (b : Ref sig .tc) → Buf (Elt Ideal) ((c.tc : Thread nD τ).loc b))

/-! ## One step's blocks -/

/-- The new left statistic in row `r` of step `i`, from the gradient's block and the statistic's. -/
def lstat (x0 : Vec Ideal S1x1536x2304 .bf16) (x1 : Vec Ideal S1x512x1536 .f32) (i : Fin 3) (r : Fin 512) (j : Fin 1536) : EReal :=
  lit 0x3F733333#32 * x1 (ix3 0 r j)
    + lit 0x3D4CCCCD#32 * ∑ k : Fin 2304, x0 (ix3 0 (srow 512 3 rfl i r) k) * x0 (ix3 0 j k)

/-- The first output block of a step is its rows of the new left statistic. -/
theorem out2_4_eq (c : Dev nD) (t : Fin cfg2.N) (r : Fin 512) (j : Fin 1536) :
    (outsAt2 V c t).1 (ix3 0 r j) = lstat (iblk2 V c 0 t) (iblk2 V c 1 t) (grid2.coords t 1) r j := by
  unfold outsAt2
  dsimp only
  have hc := cover2_A_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t) (iblk2 V c 2 t) (iblk2 V c 3 t) (ix3 0 r j)
  unfold out2_A_4
  rw [View.read_writes_junk_eq_canon]
  generalize iblk2 V c 0 t = b0 at hc ⊢
  generalize iblk2 V c 1 t = b1 at hc ⊢
  generalize iblk2 V c 2 t = b2 at hc ⊢
  generalize iblk2 V c 3 t = b3 at hc ⊢
  refine (View.canon_apply_of_pieces (fun y => lstat b0 b1 (grid2.coords t 1) (y 1) (y 2)) _ ?_ _ hc).trans rfl
  clear hc
  unfold kernelRun2_A
  dsimp only
  sl_unfold_words
  simp only [View.readAt_eq_ld, (hs2_0 t).read_unread, (hs2_1 t).read_unread, (hs2_2 t).read_unread, (hs2_3 t).read_unread]
  simp only [List.forall_mem_cons, List.not_mem_nil, false_imp_iff, implies_true, and_true]
  have hoff := row_offset (grid2.coords t 1).val 512 (lt_trans (grid2.coords t 1).isLt (by decide)) (by decide)
  refine ⟨?_, ?_, ?_, ?_, ?_, ?_⟩
  all_goals
    intro x
    idx_vars x
    simp only [emb_unit3]
    unfold lstat
    pointwise [k2_pay1,k2_pay2,k2_pay3,k2_pay4,k2_pay5,k2_pay6,k2_pay7,k2_pay8,k2_pay9,k2_pay10,k2_pay11,k2_pay12,k2_pay13,k2_pay14,k2_pay15,k2_pay16,k2_pay17,k2_pay18,k2_pay19,k2_pay20,k2_pay21,k2_pay22,k2_pay23,k2_pay24,k2_pay25,hoff,srow]

/-- The second output block of a step is those rows times the left basis, scaled by column. -/
theorem out2_5_eq (c : Dev nD) (t : Fin cfg2.N) (r : Fin 512) (j : Fin 1536) :
    (outsAt2 V c t).2 (ix3 0 r j) = (∑ k : Fin 1536, lstat (iblk2 V c 0 t) (iblk2 V c 1 t) (grid2.coords t 1) r k * code (iblk2 V c 2 t (ix3 0 k j))) * iblk2 V c 3 t (ix3 0 0 j)  := by
  unfold outsAt2
  dsimp only
  have hc := cover2_A_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t) (iblk2 V c 2 t) (iblk2 V c 3 t) (ix3 0 r j)
  unfold out2_A_5
  rw [View.read_writes_junk_eq_canon]
  generalize iblk2 V c 0 t = b0 at hc ⊢
  generalize iblk2 V c 1 t = b1 at hc ⊢
  generalize iblk2 V c 2 t = b2 at hc ⊢
  generalize iblk2 V c 3 t = b3 at hc ⊢
  refine (View.canon_apply_of_pieces (fun y => (∑ k : Fin 1536, lstat b0 b1 (grid2.coords t 1) (y 1) k * code (b2 (ix3 0 k (y 2)))) * b3 (ix3 0 0 (y 2))) _ ?_ _ hc).trans rfl
  clear hc
  unfold kernelRun2_A
  dsimp only
  sl_unfold_words
  simp only [View.readAt_eq_ld, (hs2_0 t).read_unread, (hs2_1 t).read_unread, (hs2_2 t).read_unread, (hs2_3 t).read_unread]
  simp only [List.forall_mem_cons, List.not_mem_nil, false_imp_iff, implies_true, and_true]
  have hoff := row_offset (grid2.coords t 1).val 512 (lt_trans (grid2.coords t 1).isLt (by decide)) (by decide)
  generalize hS : View.readCov (Val := Elt Ideal) (View.whole cc2_scratch0) _ _ = S
  have hs : ∀ (r : Fin 512) (j : Fin 1536), S (ix2 r j) = lstat b0 b1 (grid2.coords t 1) r j := by
    intro r j
    rw [← hS, View.readCov_eq_canon' (Val := Elt Ideal)]
    have e : ∀ h, (Rect.unit (s := S512x1536) ![0, 0] ![512, 1536] h).toLoadRect.idx (ix2 r j) = ix2 r j := fun h =>
      (emb_unit2 h r j).trans (by simp only [Nat.zero_add])
    beta_reduce
    rw [e]
    refine (View.canon_apply_of_pieces (fun y => lstat b0 b1 (grid2.coords t 1) (y 0) (y 1)) _ ?_ _ ?_).trans rfl
    · simp only [List.forall_mem_cons, List.not_mem_nil, false_imp_iff, implies_true, and_true]
      refine ⟨?_, ?_, ?_, ?_, ?_, ?_⟩
      all_goals
        intro x
        idx_vars x
        refine Eq.trans ?_ (congrArg (fun y : S512x1536.Idx => lstat b0 b1 (grid2.coords t 1) (y 0) (y 1)) (emb_unit2 (n0 := 512) (n1 := 1536) _ x0 x1).symm)
        beta_reduce
        unfold lstat
        pointwise [k2_pay1,k2_pay2,k2_pay3,k2_pay4,k2_pay5,k2_pay6,k2_pay7,k2_pay8,k2_pay9,k2_pay10,k2_pay11,k2_pay12,k2_pay13,k2_pay14,k2_pay15,k2_pay16,k2_pay17,k2_pay18,k2_pay19,k2_pay20,k2_pay21,k2_pay22,k2_pay23,k2_pay24,k2_pay25,hoff,srow]
    · exact View.cover_of_tiledL _ ![512, 256] (by sl_kernel_rfl) _
  clear hS
  refine ⟨?_, ?_, ?_, ?_, ?_, ?_⟩
  all_goals
    intro x
    idx_vars x
    simp only [emb_unit3]
    pointwise [k2_pay1,k2_pay2,k2_pay3,k2_pay4,k2_pay5,k2_pay6,k2_pay7,k2_pay8,k2_pay9,k2_pay10,k2_pay11,k2_pay12,k2_pay13,k2_pay14,k2_pay15,k2_pay16,k2_pay17,k2_pay18,k2_pay19,k2_pay20,k2_pay21,k2_pay22,k2_pay23,k2_pay24,k2_pay25,k2_pay26,k2_pay27,k2_pay28,k2_pay29,k2_pay30,k2_pay31,k2_pay32,hs]
    rfl

/-! ## The blocks in their arrays -/

/-- Input block 0 of a step holds the batch's gradient. -/
theorem iblk2_0 (c : Dev nD) (t : Fin cfg2.N) (i : Fin 1536) (k : Fin 2304) :
    iblk2 V c 0 t (ix3 0 i k) = (kargs V c).g (grid2.coords t 0) i k :=
  congrArg (V c main_arg1) (blk_idx3 _ _ 0 i k (grid2.coords t 0) i k (word_val (by decide) _) (Nat.zero_add _).symm (Nat.zero_add _).symm)

/-- Input block 1 of a step holds the step's rows of the left statistic. -/
theorem iblk2_1 (c : Dev nD) (t : Fin cfg2.N) (r : Fin 512) (j : Fin 1536) :
    iblk2 V c 1 t (ix3 0 r j) = (kargs V c).l (grid2.coords t 0) (srow 512 3 rfl (grid2.coords t 1) r) j :=
  congrArg (V c main_arg6) (blk_idx3 _ _ 0 r j (grid2.coords t 0) (srow 512 3 rfl (grid2.coords t 1) r) j (word_val (by decide) _)
    (srow_val 512 3 rfl (by decide) _ _) (Nat.zero_add _).symm)

/-- Input block 2 of a step holds the batch's left basis codes. -/
theorem iblk2_2 (c : Dev nD) (t : Fin cfg2.N) (i j : Fin 1536) :
    iblk2 V c 2 t (ix3 0 i j) = (kargs V c).ql (grid2.coords t 0) i j :=
  congrArg (V c main_arg8) (blk_idx3 _ _ 0 i j (grid2.coords t 0) i j (word_val (by decide) _) (Nat.zero_add _).symm (Nat.zero_add _).symm)

/-- Input block 3 of a step holds the batch's left basis scales. -/
theorem iblk2_3 (c : Dev nD) (t : Fin cfg2.N) (j : Fin 1536) :
    iblk2 V c 3 t (ix3 0 0 j) = (kargs V c).qls (grid2.coords t 0) j :=
  congrArg (V c main_v0) (blk_idx3 _ _ 0 0 j (grid2.coords t 0) 0 j (word_val (by decide) _) rfl (Nat.zero_add _).symm)

/-- A step's rows of the left statistic are rows of the whole. -/
theorem lstat_eq (c : Dev nD) (t : Fin cfg2.N) (r : Fin 512) (j : Fin 1536) :
    lstat (iblk2 V c 0 t) (iblk2 V c 1 t) (grid2.coords t 1) r j
      = (kargs V c).lnew (grid2.coords t 0) (srow 512 3 rfl (grid2.coords t 1) r) j := by
  unfold lstat Args.lnew
  simp only [iblk2_0, iblk2_1]

/-- A step's rows of the left projection are rows of the whole. -/
theorem pl_eq (c : Dev nD) (t : Fin cfg2.N) (r : Fin 512) (j : Fin 1536) :
    (∑ k : Fin 1536, lstat (iblk2 V c 0 t) (iblk2 V c 1 t) (grid2.coords t 1) r k * code (iblk2 V c 2 t (ix3 0 k j))) * iblk2 V c 3 t (ix3 0 0 j)
      = (kargs V c).pl (grid2.coords t 0) (srow 512 3 rfl (grid2.coords t 1) r) j := by
  unfold Args.pl
  simp only [lstat_eq, iblk2_2, iblk2_3]

/-- The rows of a step, in the array. -/
theorem rows2_4 (t : Fin cfg2.N) (r : Fin 512) (j : Fin 1536) :
    (win2_4.rect t).emb (ix3 0 r j) = (ix3 (grid2.coords t 0) (srow 512 3 rfl (grid2.coords t 1) r) j : S9x1536x1536.Idx) :=
  blk_idx3 _ _ 0 r j (grid2.coords t 0) (srow 512 3 rfl (grid2.coords t 1) r) j (word_val (by decide) _)
    (srow_val 512 3 rfl (by decide) _ _) (Nat.zero_add _).symm

/-- The same of the second result. -/
theorem rows2_5 (t : Fin cfg2.N) (r : Fin 512) (j : Fin 1536) :
    (win2_5.rect t).emb (ix3 0 r j) = (ix3 (grid2.coords t 0) (srow 512 3 rfl (grid2.coords t 1) r) j : S9x1536x1536.Idx) :=
  blk_idx3 _ _ 0 r j (grid2.coords t 0) (srow 512 3 rfl (grid2.coords t 1) r) j (word_val (by decide) _)
    (srow_val 512 3 rfl (by decide) _ _) (Nat.zero_add _).symm

/-- Every index of the array is in some step's rows. -/
theorem steps2 (y : S9x1536x1536.Idx) :
    ∃ (t : Fin cfg2.N) (r : Fin 512) (j : Fin 1536), y = ix3 (grid2.coords t 0) (srow 512 3 rfl (grid2.coords t 1) r) j := by
  obtain ⟨b, i, j, rfl⟩ : ∃ (b : Fin 9) (i : Fin 1536) (j : Fin 1536), y = ix3 b i j := ⟨_, _, _, eq_ix3 y⟩
  obtain ⟨k, r, rfl⟩ := srow_surj 512 3 rfl i
  obtain ⟨t, ht⟩ := Pipeline.Grid.coords_surjective grid2 (fun | ⟨0, _⟩ => b | ⟨1, _⟩ => k)
  exact ⟨t, r, j, by rw [ht]; rfl⟩

/-- The new left statistic's array when the kernel ends. -/
theorem arr_lnew (c : Dev nD) : (dat2 V c).arrAt 4 cfg2.N = fun y => (kargs V c).lnew (y 0) (y 1) (y 2) := by
  refine (dat2 V c).arrAt_eq_of_cover 4 (fun y => (kargs V c).lnew (y 0) (y 1) (y 2)) (fun t _ => ?_) (fun y => ?_)
  · show (cfg2.win 4).cut (grid2.coords t) ((dat2 V c).after 4 t) = _
    rw [after2_4]
    funext x
    obtain ⟨a, r, j, rfl⟩ : ∃ (a : Fin 1) (r : Fin 512) (j : Fin 1536), x = ix3 a r j := ⟨_, _, _, eq_ix3 x⟩
    obtain rfl : a = 0 := Subsingleton.elim _ _
    exact ((out2_4_eq V c t r j).trans (lstat_eq V c t r j)).trans
      (congrArg (fun y : S9x1536x1536.Idx => (kargs V c).lnew (y 0) (y 1) (y 2)) (rows2_4 t r j)).symm
  · obtain ⟨t, r, j, rfl⟩ := steps2 y
    refine ⟨t, flush2_4 t, ?_⟩
    show _ ∈ ((View.whole main_v4_0).slice (win2_4.rect t)).set
    rw [View.set_slice_whole]
    exact rows2_4 t r j ▸ (win2_4.rect t).idx_mem _

/-- The array of the new left statistic applied to the left basis when the kernel ends. -/
theorem arr_pl (c : Dev nD) : (dat2 V c).arrAt 5 cfg2.N = fun y => (kargs V c).pl (y 0) (y 1) (y 2) := by
  refine (dat2 V c).arrAt_eq_of_cover 5 (fun y => (kargs V c).pl (y 0) (y 1) (y 2)) (fun t _ => ?_) (fun y => ?_)
  · show (cfg2.win 5).cut (grid2.coords t) ((dat2 V c).after 5 t) = _
    rw [after2_5]
    funext x
    obtain ⟨a, r, j, rfl⟩ : ∃ (a : Fin 1) (r : Fin 512) (j : Fin 1536), x = ix3 a r j := ⟨_, _, _, eq_ix3 x⟩
    obtain rfl : a = 0 := Subsingleton.elim _ _
    exact ((out2_5_eq V c t r j).trans (pl_eq V c t r j)).trans
      (congrArg (fun y : S9x1536x1536.Idx => (kargs V c).pl (y 0) (y 1) (y 2)) (rows2_5 t r j)).symm
  · obtain ⟨t, r, j, rfl⟩ := steps2 y
    refine ⟨t, flush2_5 t, ?_⟩
    show _ ∈ ((View.whole main_v4_1).slice (win2_5.rect t)).set
    rw [View.set_slice_whole]
    exact rows2_5 t r j ▸ (win2_5.rect t).idx_mem _

end Cert.KernelIdeal.Soap

end
-- ==== Proof.Right.lean ====
/- The right statistic's kernel: what its two result arrays hold when it ends. -/
module

public import proofs.«01_k».proof.Proof.KernelArgs
public import Idealize.ShloMosaic.Lib.Pipeline.Covers

@[expose] public section

set_option maxRecDepth 16384
set_option maxHeartbeats 2000000

noncomputable section

namespace Cert.KernelIdeal.Soap

open Idealize.ShloMosaic Idealize.ShloMosaic.TcCoe Idealize.SL.Sem Cert.KernelIdeal Cert.KernelIdeal.Gen Cert.Soap

variable (V : (c : Dev nD) → (b : Ref sig .tc) → Buf (Elt Ideal) ((c.tc : Thread nD τ).loc b))

/-! ## One step's blocks -/

/-- The new right statistic in row `r` of step `i`, from the gradient's block and the statistic's. -/
def rstat (x0 : Vec Ideal S1x1536x2304 .bf16) (x1 : Vec Ideal S1x384x2304 .f32) (i : Fin 6) (r : Fin 384) (j : Fin 2304) : EReal :=
  lit 0x3F733333#32 * x1 (ix3 0 r j)
    + lit 0x3D4CCCCD#32 * ∑ k : Fin 1536, x0 (ix3 0 k (srow 384 6 rfl i r)) * x0 (ix3 0 k j)

/-- The first output block of a step is its rows of the new right statistic. -/
theorem out3_4_eq (c : Dev nD) (t : Fin cfg3.N) (r : Fin 384) (j : Fin 2304) :
    (outsAt3 V c t).1 (ix3 0 r j) = rstat (iblk3 V c 0 t) (iblk3 V c 1 t) (grid3.coords t 1) r j := by
  unfold outsAt3
  dsimp only
  have hc := cover3_A_4 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (iblk3 V c 0 t) (iblk3 V c 1 t) (iblk3 V c 2 t) (iblk3 V c 3 t) (ix3 0 r j)
  unfold out3_A_4
  rw [View.read_writes_junk_eq_canon]
  generalize iblk3 V c 0 t = b0 at hc ⊢
  generalize iblk3 V c 1 t = b1 at hc ⊢
  generalize iblk3 V c 2 t = b2 at hc ⊢
  generalize iblk3 V c 3 t = b3 at hc ⊢
  refine (View.canon_apply_of_pieces (fun y => rstat b0 b1 (grid3.coords t 1) (y 1) (y 2)) _ ?_ _ hc).trans rfl
  clear hc
  unfold kernelRun3_A
  dsimp only
  sl_unfold_words
  simp only [View.readAt_eq_ld, (hs3_0 t).read_unread, (hs3_1 t).read_unread, (hs3_2 t).read_unread, (hs3_3 t).read_unread]
  simp only [List.forall_mem_cons, List.not_mem_nil, false_imp_iff, implies_true, and_true]
  have hoff := row_offset (grid3.coords t 1).val 384 (lt_trans (grid3.coords t 1).isLt (by decide)) (by decide)
  refine ⟨?_, ?_, ?_, ?_, ?_, ?_, ?_, ?_, ?_⟩
  all_goals
    intro x
    idx_vars x
    simp only [emb_unit3]
    unfold rstat
    pointwise [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45,hoff,srow]

/-- The second output block of a step is those rows times the right basis, scaled by column. -/
theorem out3_5_eq (c : Dev nD) (t : Fin cfg3.N) (r : Fin 384) (j : Fin 2304) :
    (outsAt3 V c t).2 (ix3 0 r j) = (∑ k : Fin 2304, rstat (iblk3 V c 0 t) (iblk3 V c 1 t) (grid3.coords t 1) r k * code (iblk3 V c 2 t (ix3 0 k j))) * iblk3 V c 3 t (ix3 0 0 j)  := by
  unfold outsAt3
  dsimp only
  have hc := cover3_A_5 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (iblk3 V c 0 t) (iblk3 V c 1 t) (iblk3 V c 2 t) (iblk3 V c 3 t) (ix3 0 r j)
  unfold out3_A_5
  rw [View.read_writes_junk_eq_canon]
  generalize iblk3 V c 0 t = b0 at hc ⊢
  generalize iblk3 V c 1 t = b1 at hc ⊢
  generalize iblk3 V c 2 t = b2 at hc ⊢
  generalize iblk3 V c 3 t = b3 at hc ⊢
  refine (View.canon_apply_of_pieces (fun y => (∑ k : Fin 2304, rstat b0 b1 (grid3.coords t 1) (y 1) k * code (b2 (ix3 0 k (y 2)))) * b3 (ix3 0 0 (y 2))) _ ?_ _ hc).trans rfl
  clear hc
  unfold kernelRun3_A
  dsimp only
  sl_unfold_words
  simp only [View.readAt_eq_ld, (hs3_0 t).read_unread, (hs3_1 t).read_unread, (hs3_2 t).read_unread, (hs3_3 t).read_unread]
  simp only [List.forall_mem_cons, List.not_mem_nil, false_imp_iff, implies_true, and_true]
  have hoff := row_offset (grid3.coords t 1).val 384 (lt_trans (grid3.coords t 1).isLt (by decide)) (by decide)
  generalize hS : View.readCov (Val := Elt Ideal) (View.whole cc3_scratch0) _ _ = S
  have hs : ∀ (r : Fin 384) (j : Fin 2304), S (ix2 r j) = rstat b0 b1 (grid3.coords t 1) r j := by
    intro r j
    rw [← hS, View.readCov_eq_canon' (Val := Elt Ideal)]
    have e : ∀ h, (Rect.unit (s := S384x2304) ![0, 0] ![384, 2304] h).toLoadRect.idx (ix2 r j) = ix2 r j := fun h =>
      (emb_unit2 h r j).trans (by simp only [Nat.zero_add])
    beta_reduce
    rw [e]
    refine (View.canon_apply_of_pieces (fun y => rstat b0 b1 (grid3.coords t 1) (y 0) (y 1)) _ ?_ _ ?_).trans rfl
    · simp only [List.forall_mem_cons, List.not_mem_nil, false_imp_iff, implies_true, and_true]
      refine ⟨?_, ?_, ?_, ?_, ?_, ?_, ?_, ?_, ?_⟩
      all_goals
        intro x
        idx_vars x
        refine Eq.trans ?_ (congrArg (fun y : S384x2304.Idx => rstat b0 b1 (grid3.coords t 1) (y 0) (y 1)) (emb_unit2 (n0 := 384) (n1 := 2304) _ x0 x1).symm)
        beta_reduce
        unfold rstat
        pointwise [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45,hoff,srow]
    · exact View.cover_of_tiledL _ ![384, 256] (by sl_kernel_rfl) _
  clear hS
  refine ⟨?_, ?_, ?_, ?_, ?_, ?_, ?_, ?_, ?_⟩
  all_goals
    intro x
    idx_vars x
    simp only [emb_unit3]
    pointwise [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45,hs]
    rfl

/-! ## The blocks in their arrays -/

/-- Input block 0 of a step holds the batch's gradient. -/
theorem iblk3_0 (c : Dev nD) (t : Fin cfg3.N) (i : Fin 1536) (k : Fin 2304) :
    iblk3 V c 0 t (ix3 0 i k) = (kargs V c).g (grid3.coords t 0) i k :=
  congrArg (V c main_arg1) (blk_idx3 _ _ 0 i k (grid3.coords t 0) i k (word_val (by decide) _) (Nat.zero_add _).symm (Nat.zero_add _).symm)

/-- Input block 1 of a step holds the step's rows of the right statistic. -/
theorem iblk3_1 (c : Dev nD) (t : Fin cfg3.N) (r : Fin 384) (j : Fin 2304) :
    iblk3 V c 1 t (ix3 0 r j) = (kargs V c).r (grid3.coords t 0) (srow 384 6 rfl (grid3.coords t 1) r) j :=
  congrArg (V c main_arg7) (blk_idx3 _ _ 0 r j (grid3.coords t 0) (srow 384 6 rfl (grid3.coords t 1) r) j (word_val (by decide) _)
    (srow_val 384 6 rfl (by decide) _ _) (Nat.zero_add _).symm)

/-- Input block 2 of a step holds the batch's right basis codes. -/
theorem iblk3_2 (c : Dev nD) (t : Fin cfg3.N) (i j : Fin 2304) :
    iblk3 V c 2 t (ix3 0 i j) = (kargs V c).qr (grid3.coords t 0) i j :=
  congrArg (V c main_arg10) (blk_idx3 _ _ 0 i j (grid3.coords t 0) i j (word_val (by decide) _) (Nat.zero_add _).symm (Nat.zero_add _).symm)

/-- Input block 3 of a step holds the batch's right basis scales. -/
theorem iblk3_3 (c : Dev nD) (t : Fin cfg3.N) (j : Fin 2304) :
    iblk3 V c 3 t (ix3 0 0 j) = (kargs V c).qrs (grid3.coords t 0) j :=
  congrArg (V c main_v1) (blk_idx3 _ _ 0 0 j (grid3.coords t 0) 0 j (word_val (by decide) _) rfl (Nat.zero_add _).symm)

/-- A step's rows of the right statistic are rows of the whole. -/
theorem rstat_eq (c : Dev nD) (t : Fin cfg3.N) (r : Fin 384) (j : Fin 2304) :
    rstat (iblk3 V c 0 t) (iblk3 V c 1 t) (grid3.coords t 1) r j
      = (kargs V c).rnew (grid3.coords t 0) (srow 384 6 rfl (grid3.coords t 1) r) j := by
  unfold rstat Args.rnew
  simp only [iblk3_0, iblk3_1]

/-- A step's rows of the right projection are rows of the whole. -/
theorem pr_eq (c : Dev nD) (t : Fin cfg3.N) (r : Fin 384) (j : Fin 2304) :
    (∑ k : Fin 2304, rstat (iblk3 V c 0 t) (iblk3 V c 1 t) (grid3.coords t 1) r k * code (iblk3 V c 2 t (ix3 0 k j))) * iblk3 V c 3 t (ix3 0 0 j)
      = (kargs V c).pr (grid3.coords t 0) (srow 384 6 rfl (grid3.coords t 1) r) j := by
  unfold Args.pr
  simp only [rstat_eq, iblk3_2, iblk3_3]

/-- The rows of a step, in the array. -/
theorem rows3_4 (t : Fin cfg3.N) (r : Fin 384) (j : Fin 2304) :
    (win3_4.rect t).emb (ix3 0 r j) = (ix3 (grid3.coords t 0) (srow 384 6 rfl (grid3.coords t 1) r) j : S9x2304x2304.Idx) :=
  blk_idx3 _ _ 0 r j (grid3.coords t 0) (srow 384 6 rfl (grid3.coords t 1) r) j (word_val (by decide) _)
    (srow_val 384 6 rfl (by decide) _ _) (Nat.zero_add _).symm

/-- The same of the second result. -/
theorem rows3_5 (t : Fin cfg3.N) (r : Fin 384) (j : Fin 2304) :
    (win3_5.rect t).emb (ix3 0 r j) = (ix3 (grid3.coords t 0) (srow 384 6 rfl (grid3.coords t 1) r) j : S9x2304x2304.Idx) :=
  blk_idx3 _ _ 0 r j (grid3.coords t 0) (srow 384 6 rfl (grid3.coords t 1) r) j (word_val (by decide) _)
    (srow_val 384 6 rfl (by decide) _ _) (Nat.zero_add _).symm

/-- Every index of the array is in some step's rows. -/
theorem steps3 (y : S9x2304x2304.Idx) :
    ∃ (t : Fin cfg3.N) (r : Fin 384) (j : Fin 2304), y = ix3 (grid3.coords t 0) (srow 384 6 rfl (grid3.coords t 1) r) j := by
  obtain ⟨b, i, j, rfl⟩ : ∃ (b : Fin 9) (i : Fin 2304) (j : Fin 2304), y = ix3 b i j := ⟨_, _, _, eq_ix3 y⟩
  obtain ⟨k, r, rfl⟩ := srow_surj 384 6 rfl i
  obtain ⟨t, ht⟩ := Pipeline.Grid.coords_surjective grid3 (fun | ⟨0, _⟩ => b | ⟨1, _⟩ => k)
  exact ⟨t, r, j, by rw [ht]; rfl⟩

/-- The new right statistic's array when the kernel ends. -/
theorem arr_rnew (c : Dev nD) : (dat3 V c).arrAt 4 cfg3.N = fun y => (kargs V c).rnew (y 0) (y 1) (y 2) := by
  refine (dat3 V c).arrAt_eq_of_cover 4 (fun y => (kargs V c).rnew (y 0) (y 1) (y 2)) (fun t _ => ?_) (fun y => ?_)
  · show (cfg3.win 4).cut (grid3.coords t) ((dat3 V c).after 4 t) = _
    rw [after3_4]
    funext x
    obtain ⟨a, r, j, rfl⟩ : ∃ (a : Fin 1) (r : Fin 384) (j : Fin 2304), x = ix3 a r j := ⟨_, _, _, eq_ix3 x⟩
    obtain rfl : a = 0 := Subsingleton.elim _ _
    exact ((out3_4_eq V c t r j).trans (rstat_eq V c t r j)).trans
      (congrArg (fun y : S9x2304x2304.Idx => (kargs V c).rnew (y 0) (y 1) (y 2)) (rows3_4 t r j)).symm
  · obtain ⟨t, r, j, rfl⟩ := steps3 y
    refine ⟨t, flush3_4 t, ?_⟩
    show _ ∈ ((View.whole main_v5_0).slice (win3_4.rect t)).set
    rw [View.set_slice_whole]
    exact rows3_4 t r j ▸ (win3_4.rect t).idx_mem _

/-- The array of the new right statistic applied to the right basis when the kernel ends. -/
theorem arr_pr (c : Dev nD) : (dat3 V c).arrAt 5 cfg3.N = fun y => (kargs V c).pr (y 0) (y 1) (y 2) := by
  refine (dat3 V c).arrAt_eq_of_cover 5 (fun y => (kargs V c).pr (y 0) (y 1) (y 2)) (fun t _ => ?_) (fun y => ?_)
  · show (cfg3.win 5).cut (grid3.coords t) ((dat3 V c).after 5 t) = _
    rw [after3_5]
    funext x
    obtain ⟨a, r, j, rfl⟩ : ∃ (a : Fin 1) (r : Fin 384) (j : Fin 2304), x = ix3 a r j := ⟨_, _, _, eq_ix3 x⟩
    obtain rfl : a = 0 := Subsingleton.elim _ _
    exact ((out3_5_eq V c t r j).trans (pr_eq V c t r j)).trans
      (congrArg (fun y : S9x2304x2304.Idx => (kargs V c).pr (y 0) (y 1) (y 2)) (rows3_5 t r j)).symm
  · obtain ⟨t, r, j, rfl⟩ := steps3 y
    refine ⟨t, flush3_5 t, ?_⟩
    show _ ∈ ((View.whole main_v5_1).slice (win3_5.rect t)).set
    rw [View.set_slice_whole]
    exact rows3_5 t r j ▸ (win3_5.rect t).idx_mem _

end Cert.KernelIdeal.Soap

end
-- ==== Proof.Back.lean ====
/- The backward kernel: what its two result arrays hold when it ends. -/
module

public import proofs.«01_k».proof.Proof.KernelArgs
public import Idealize.ShloMosaic.Lib.Pipeline.Covers

@[expose] public section

set_option maxRecDepth 16384
set_option maxHeartbeats 2000000

noncomputable section

namespace Cert.KernelIdeal.Soap

open Idealize.ShloMosaic Idealize.ShloMosaic.TcCoe Idealize.SL.Sem Cert.KernelIdeal Cert.KernelIdeal.Gen Cert.Soap

variable (V : (c : Dev nD) → (b : Ref sig .tc) → Buf (Elt Ideal) ((c.tc : Thread nD τ).loc b))

/-! ## One step's blocks -/

/-- Row `r` of the direction rotated back from the left. -/
def bp (n : Vec Ideal S1x1536x2304 .bf16) (q : Vec Ideal S1x256x1536 .i8) (s : Vec Ideal S1x1x1536 .f32) (r : Fin 256) (l : Fin 2304) : EReal :=
  ∑ j : Fin 1536, code (q (ix3 0 r j)) * s (ix3 0 0 j) * n (ix3 0 j l)

/-- Row `r` of the update. -/
def bu (n : Vec Ideal S1x1536x2304 .bf16) (q : Vec Ideal S1x256x1536 .i8) (s : Vec Ideal S1x1x1536 .f32) (R : Vec Ideal S1x2304x2304 .i8)
    (rs : Vec Ideal S1x1x2304 .f32) (r : Fin 256) (k : Fin 2304) : EReal :=
  ∑ l : Fin 2304, bp n q s r l * (code (R (ix3 0 k l)) * rs (ix3 0 0 l))

/-- Row `r` of the new weight, in batch entry `b`. -/
def bw (lr wd : Vec Ideal S9 .f32) (n : Vec Ideal S1x1536x2304 .bf16) (q : Vec Ideal S1x256x1536 .i8) (s : Vec Ideal S1x1x1536 .f32)
    (R : Vec Ideal S1x2304x2304 .i8) (rs : Vec Ideal S1x1x2304 .f32) (w : Vec Ideal S1x256x2304 .f32) (b : Fin 9) (r : Fin 256) (k : Fin 2304) : EReal :=
  w (ix3 0 r k) - lr (ix1 b) * (bu n q s R rs r k + wd (ix1 b) * w (ix3 0 r k))

/-- What the kernel's scratch holds once it is written. -/
theorem scratch1 (c : Dev nD) (t : Fin cfg1.N) (b0 b1 : Vec Ideal S9 .f32) (b2 : Vec Ideal S1x1536x2304 .bf16)
    (b3 : Vec Ideal S1x256x1536 .i8) (b4 : Vec Ideal S1x1x1536 .f32) (b5 : Vec Ideal S1x2304x2304 .i8) (b6 : Vec Ideal S1x1x2304 .f32)
    (b7 : Vec Ideal S1x256x2304 .f32) (r : Fin 256) (l : Fin 2304) :
    View.canon (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) b0 b1 b2 b3 b4 b5 b6 b7).2.2.1 (ix2 r l) = bp b2 b3 b4 r l := by
  unfold kernelRun1_A
  dsimp only
  sl_unfold_words
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread]
  refine (View.canon_apply_of_pieces (fun y => bp b2 b3 b4 (y 0) (y 1)) _ ?_ _ ?_).trans rfl
  · simp only [List.forall_mem_cons, List.not_mem_nil, false_imp_iff, implies_true, and_true]
    refine ⟨?_, ?_, ?_, ?_, ?_, ?_, ?_, ?_, ?_⟩
    all_goals
      intro x
      idx_vars x
      refine Eq.trans ?_ (congrArg (fun y : S256x2304.Idx => bp b2 b3 b4 (y 0) (y 1)) (emb_unit2 (n0 := 256) (n1 := 2304) _ x0 x1).symm)
      beta_reduce
      unfold bp
      pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43]
      rfl
  · exact View.cover_of_tiledL _ ![256, 256] (by sl_kernel_rfl) _

/-- The rows of the update. -/
theorem out1_9_eq (c : Dev nD) (t : Fin cfg1.N) (r : Fin 256) (k : Fin 2304) :
    (outsAt1 V c t).2 (ix3 0 r k) = bu (iblk1 V c 2 t) (iblk1 V c 3 t) (iblk1 V c 4 t) (iblk1 V c 5 t) (iblk1 V c 6 t) r k := by
  unfold outsAt1
  dsimp only
  have hc := cover1_A_9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t) (ix3 0 r k)
  unfold out1_A_9
  rw [View.read_writes_junk_eq_canon]
  generalize iblk1 V c 0 t = b0 at hc ⊢
  generalize iblk1 V c 1 t = b1 at hc ⊢
  generalize iblk1 V c 2 t = b2 at hc ⊢
  generalize iblk1 V c 3 t = b3 at hc ⊢
  generalize iblk1 V c 4 t = b4 at hc ⊢
  generalize iblk1 V c 5 t = b5 at hc ⊢
  generalize iblk1 V c 6 t = b6 at hc ⊢
  generalize iblk1 V c 7 t = b7 at hc ⊢
  refine (View.canon_apply_of_pieces (fun y => bu b2 b3 b4 b5 b6 (y 1) (y 2)) _ ?_ _ hc).trans rfl
  clear hc
  have hS := scratch1 c t b0 b1 b2 b3 b4 b5 b6 b7
  revert hS
  unfold kernelRun1_A
  dsimp only
  sl_unfold_words
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread]
  intro hS
  simp only [List.forall_mem_cons, List.not_mem_nil, false_imp_iff, implies_true, and_true]
  generalize hR : View.readCov (Val := Elt Ideal) (View.whole cc1_scratch0) _ _ = S
  have hs : ∀ (r : Fin 256) (l : Fin 2304), S (ix2 r l) = bp b2 b3 b4 r l := by
    intro r l
    rw [← hR, View.readCov_eq_canon' (Val := Elt Ideal)]
    have e : ∀ h, (Rect.unit (s := S256x2304) ![0, 0] ![256, 2304] h).toLoadRect.idx (ix2 r l) = ix2 r l := fun h =>
      (emb_unit2 h r l).trans (by simp only [Nat.zero_add])
    beta_reduce
    rw [e]
    exact hS r l
  clear hR hS
  refine ⟨?_, ?_, ?_, ?_, ?_, ?_, ?_, ?_, ?_⟩
  all_goals
    intro x
    idx_vars x
    simp only [emb_unit3]
    unfold bu
    pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, hs]
    rfl

/-- The rows of the new weight. -/
theorem out1_8_eq (c : Dev nD) (t : Fin cfg1.N) (r : Fin 256) (k : Fin 2304) :
    (outsAt1 V c t).1 (ix3 0 r k) = bw (iblk1 V c 0 t) (iblk1 V c 1 t) (iblk1 V c 2 t) (iblk1 V c 3 t) (iblk1 V c 4 t) (iblk1 V c 5 t) (iblk1 V c 6 t) (iblk1 V c 7 t) (grid1.coords t 0) r k := by
  unfold outsAt1
  dsimp only
  have hc := cover1_A_8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _) (iblk1 V c 0 t) (iblk1 V c 1 t) (iblk1 V c 2 t) (iblk1 V c 3 t) (iblk1 V c 4 t) (iblk1 V c 5 t) (iblk1 V c 6 t) (iblk1 V c 7 t) (ix3 0 r k)
  unfold out1_A_8
  rw [View.read_writes_junk_eq_canon]
  generalize iblk1 V c 0 t = b0 at hc ⊢
  generalize iblk1 V c 1 t = b1 at hc ⊢
  generalize iblk1 V c 2 t = b2 at hc ⊢
  generalize iblk1 V c 3 t = b3 at hc ⊢
  generalize iblk1 V c 4 t = b4 at hc ⊢
  generalize iblk1 V c 5 t = b5 at hc ⊢
  generalize iblk1 V c 6 t = b6 at hc ⊢
  generalize iblk1 V c 7 t = b7 at hc ⊢
  refine (View.canon_apply_of_pieces (fun y => bw b0 b1 b2 b3 b4 b5 b6 b7 (grid1.coords t 0) (y 1) (y 2)) _ ?_ _ hc).trans rfl
  clear hc
  have hS := scratch1 c t b0 b1 b2 b3 b4 b5 b6 b7
  revert hS
  unfold kernelRun1_A
  dsimp only
  sl_unfold_words
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread]
  intro hS
  simp only [List.forall_mem_cons, List.not_mem_nil, false_imp_iff, implies_true, and_true]
  generalize hR : View.readCov (Val := Elt Ideal) (View.whole cc1_scratch0) _ _ = S
  have hs : ∀ (r : Fin 256) (l : Fin 2304), S (ix2 r l) = bp b2 b3 b4 r l := by
    intro r l
    rw [← hR, View.readCov_eq_canon' (Val := Elt Ideal)]
    have e : ∀ h, (Rect.unit (s := S256x2304) ![0, 0] ![256, 2304] h).toLoadRect.idx (ix2 r l) = ix2 r l := fun h =>
      (emb_unit2 h r l).trans (by simp only [Nat.zero_add])
    beta_reduce
    rw [e]
    exact hS r l
  clear hR hS
  have hw := batch_index (grid1.coords t 0).val (lt_trans (grid1.coords t 0).isLt (by decide))
  refine ⟨?_, ?_, ?_, ?_, ?_, ?_, ?_, ?_, ?_⟩
  all_goals
    intro x
    idx_vars x
    simp only [emb_unit3]
    unfold bw bu
    pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, hs, hw]
    rfl

/-! ## The blocks in their arrays -/

/-- Input block 0 of a step holds the learning rates, whole. -/
theorem iblk1_0 (c : Dev nD) (t : Fin cfg1.N) (b : Fin 9) : iblk1 V c 0 t (ix1 b) = (kargs V c).lr b :=
  congrArg (V c main_arg15) (blk_idx1 _ _ b b (Nat.zero_add _).symm)

/-- Input block 1 of a step holds the weight decays, whole. -/
theorem iblk1_1 (c : Dev nD) (t : Fin cfg1.N) (b : Fin 9) : iblk1 V c 1 t (ix1 b) = (kargs V c).wd b :=
  congrArg (V c main_arg16) (blk_idx1 _ _ b b (Nat.zero_add _).symm)

/-- Input block 2 of a step holds the batch's normalized direction, from the array that the forward kernel writes. -/
theorem iblk1_2 (c : Dev nD) (t : Fin cfg1.N) (i : Fin 1536) (l : Fin 2304) :
    iblk1 V c 2 t (ix3 0 i l) = V c main_v2_4 (ix3 (grid1.coords t 0) i l : S9x1536x2304.Idx) :=
  congrArg (V c main_v2_4) (blk_idx3 _ _ 0 i l (grid1.coords t 0) i l (word_val (by decide) _) (Nat.zero_add _).symm (Nat.zero_add _).symm)

/-- Input block 3 of a step holds the step's rows of the left basis codes. -/
theorem iblk1_3 (c : Dev nD) (t : Fin cfg1.N) (r : Fin 256) (j : Fin 1536) :
    iblk1 V c 3 t (ix3 0 r j) = (kargs V c).ql (grid1.coords t 0) (srow 256 6 rfl (grid1.coords t 1) r) j :=
  congrArg (V c main_arg8) (blk_idx3 _ _ 0 r j (grid1.coords t 0) (srow 256 6 rfl (grid1.coords t 1) r) j (word_val (by decide) _)
    (srow_val 256 6 rfl (by decide) _ _) (Nat.zero_add _).symm)

/-- Input block 4 of a step holds the batch's left basis scales. -/
theorem iblk1_4 (c : Dev nD) (t : Fin cfg1.N) (j : Fin 1536) :
    iblk1 V c 4 t (ix3 0 0 j) = (kargs V c).qls (grid1.coords t 0) j :=
  congrArg (V c main_v0) (blk_idx3 _ _ 0 0 j (grid1.coords t 0) 0 j (word_val (by decide) _) rfl (Nat.zero_add _).symm)

/-- Input block 5 of a step holds the batch's right basis codes. -/
theorem iblk1_5 (c : Dev nD) (t : Fin cfg1.N) (k l : Fin 2304) :
    iblk1 V c 5 t (ix3 0 k l) = (kargs V c).qr (grid1.coords t 0) k l :=
  congrArg (V c main_arg10) (blk_idx3 _ _ 0 k l (grid1.coords t 0) k l (word_val (by decide) _) (Nat.zero_add _).symm (Nat.zero_add _).symm)

/-- Input block 6 of a step holds the batch's right basis scales. -/
theorem iblk1_6 (c : Dev nD) (t : Fin cfg1.N) (l : Fin 2304) :
    iblk1 V c 6 t (ix3 0 0 l) = (kargs V c).qrs (grid1.coords t 0) l :=
  congrArg (V c main_v1) (blk_idx3 _ _ 0 0 l (grid1.coords t 0) 0 l (word_val (by decide) _) rfl (Nat.zero_add _).symm)

/-- Input block 7 of a step holds the step's rows of the weights. -/
theorem iblk1_7 (c : Dev nD) (t : Fin cfg1.N) (r : Fin 256) (k : Fin 2304) :
    iblk1 V c 7 t (ix3 0 r k) = (kargs V c).w (grid1.coords t 0) (srow 256 6 rfl (grid1.coords t 1) r) k :=
  congrArg (V c main_arg0) (blk_idx3 _ _ 0 r k (grid1.coords t 0) (srow 256 6 rfl (grid1.coords t 1) r) k (word_val (by decide) _)
    (srow_val 256 6 rfl (by decide) _ _) (Nat.zero_add _).symm)

/-- The array the kernel reads its direction from holds the normalized direction. -/
def HasDir (c : Dev nD) : Prop :=
  ∀ (b : Fin 9) (j : Fin 1536) (l : Fin 2304), V c main_v2_4 (ix3 b j l : S9x1536x2304.Idx) = ((kargs V c).row b j).n l

variable {V}

/-- The update that a step computes is the rows of the whole update that the step stands for. -/
theorem bu_eq (c : Dev nD) (hn : HasDir V c) (t : Fin cfg1.N) (r : Fin 256) (k : Fin 2304) :
    bu (iblk1 V c 2 t) (iblk1 V c 3 t) (iblk1 V c 4 t) (iblk1 V c 5 t) (iblk1 V c 6 t) r k
      = (kargs V c).u (grid1.coords t 0) (srow 256 6 rfl (grid1.coords t 1) r) k := by
  unfold bu bp Args.u Args.p
  simp only [iblk1_2, iblk1_3, iblk1_4, iblk1_5, iblk1_6]
  simp only [hn (grid1.coords t 0)]

/-- The weights that a step computes are the rows of the whole new weights that the step stands for. -/
theorem bw_eq (c : Dev nD) (hn : HasDir V c) (t : Fin cfg1.N) (r : Fin 256) (k : Fin 2304) :
    bw (iblk1 V c 0 t) (iblk1 V c 1 t) (iblk1 V c 2 t) (iblk1 V c 3 t) (iblk1 V c 4 t) (iblk1 V c 5 t) (iblk1 V c 6 t) (iblk1 V c 7 t)
      (grid1.coords t 0) r k = (kargs V c).wnew (grid1.coords t 0) (srow 256 6 rfl (grid1.coords t 1) r) k := by
  unfold bw Args.wnew
  simp only [bu_eq c hn, iblk1_7]
  exact congrArg₂ (fun x y : EReal => _ - x * (_ + y * _)) (iblk1_0 V c t _) (iblk1_1 V c t _)

/-- The rows of a step, in the array. -/
theorem rows1_8 (t : Fin cfg1.N) (r : Fin 256) (j : Fin 2304) :
    (win1_8.rect t).emb (ix3 0 r j) = (ix3 (grid1.coords t 0) (srow 256 6 rfl (grid1.coords t 1) r) j : S9x1536x2304.Idx) :=
  blk_idx3 _ _ 0 r j (grid1.coords t 0) (srow 256 6 rfl (grid1.coords t 1) r) j (word_val (by decide) _)
    (srow_val 256 6 rfl (by decide) _ _) (Nat.zero_add _).symm

/-- The same of the second result. -/
theorem rows1_9 (t : Fin cfg1.N) (r : Fin 256) (j : Fin 2304) :
    (win1_9.rect t).emb (ix3 0 r j) = (ix3 (grid1.coords t 0) (srow 256 6 rfl (grid1.coords t 1) r) j : S9x1536x2304.Idx) :=
  blk_idx3 _ _ 0 r j (grid1.coords t 0) (srow 256 6 rfl (grid1.coords t 1) r) j (word_val (by decide) _)
    (srow_val 256 6 rfl (by decide) _ _) (Nat.zero_add _).symm

/-- Every index of the array is in some step's rows. -/
theorem steps1 (y : S9x1536x2304.Idx) :
    ∃ (t : Fin cfg1.N) (r : Fin 256) (j : Fin 2304), y = ix3 (grid1.coords t 0) (srow 256 6 rfl (grid1.coords t 1) r) j := by
  obtain ⟨b, i, j, rfl⟩ : ∃ (b : Fin 9) (i : Fin 1536) (j : Fin 2304), y = ix3 b i j := ⟨_, _, _, eq_ix3 y⟩
  obtain ⟨k, r, rfl⟩ := srow_surj 256 6 rfl i
  obtain ⟨t, ht⟩ := Pipeline.Grid.coords_surjective grid1 (fun | ⟨0, _⟩ => b | ⟨1, _⟩ => k)
  exact ⟨t, r, j, by rw [ht]; rfl⟩

/-- The new weight's array when the kernel ends. -/
theorem arr_wnew (c : Dev nD) (hn : HasDir V c) : (dat1 V c).arrAt 8 cfg1.N = fun y => (kargs V c).wnew (y 0) (y 1) (y 2) := by
  refine (dat1 V c).arrAt_eq_of_cover 8 (fun y => (kargs V c).wnew (y 0) (y 1) (y 2)) (fun t _ => ?_) (fun y => ?_)
  · show (cfg1.win 8).cut (grid1.coords t) ((dat1 V c).after 8 t) = _
    rw [after1_8]
    funext x
    obtain ⟨a, r, j, rfl⟩ : ∃ (a : Fin 1) (r : Fin 256) (j : Fin 2304), x = ix3 a r j := ⟨_, _, _, eq_ix3 x⟩
    obtain rfl : a = 0 := Subsingleton.elim _ _
    exact ((out1_8_eq V c t r j).trans (bw_eq c hn t r j)).trans
      (congrArg (fun y : S9x1536x2304.Idx => (kargs V c).wnew (y 0) (y 1) (y 2)) (rows1_8 t r j)).symm
  · obtain ⟨t, r, j, rfl⟩ := steps1 y
    refine ⟨t, flush1_8 t, ?_⟩
    show _ ∈ ((View.whole main_v3_0).slice (win1_8.rect t)).set
    rw [View.set_slice_whole]
    exact rows1_8 t r j ▸ (win1_8.rect t).idx_mem _

/-- The update's array when the kernel ends. -/
theorem arr_u (c : Dev nD) (hn : HasDir V c) : (dat1 V c).arrAt 9 cfg1.N = fun y => (kargs V c).u (y 0) (y 1) (y 2) := by
  refine (dat1 V c).arrAt_eq_of_cover 9 (fun y => (kargs V c).u (y 0) (y 1) (y 2)) (fun t _ => ?_) (fun y => ?_)
  · show (cfg1.win 9).cut (grid1.coords t) ((dat1 V c).after 9 t) = _
    rw [after1_9]
    funext x
    obtain ⟨a, r, j, rfl⟩ : ∃ (a : Fin 1) (r : Fin 256) (j : Fin 2304), x = ix3 a r j := ⟨_, _, _, eq_ix3 x⟩
    obtain rfl : a = 0 := Subsingleton.elim _ _
    exact ((out1_9_eq V c t r j).trans (bu_eq c hn t r j)).trans
      (congrArg (fun y : S9x1536x2304.Idx => (kargs V c).u (y 0) (y 1) (y 2)) (rows1_9 t r j)).symm
  · obtain ⟨t, r, j, rfl⟩ := steps1 y
    refine ⟨t, flush1_9 t, ?_⟩
    show _ ∈ ((View.whole main_v3_1).slice (win1_9.rect t)).set
    rw [View.set_slice_whole]
    exact rows1_9 t r j ▸ (win1_9.rect t).idx_mem _

end Cert.KernelIdeal.Soap

end
-- ==== Proof.FwdBase.lean ====
/- The forward kernel: the data of a row of one step's blocks, and what the kernel's scratch holds. -/
module

public import proofs.«01_k».proof.Proof.KernelArgs
public import Idealize.ShloMosaic.Lib.Pipeline.Covers

@[expose] public section

set_option maxRecDepth 16384
set_option maxHeartbeats 2000000

noncomputable section

namespace Cert.KernelIdeal.Soap

open Idealize.ShloMosaic Idealize.ShloMosaic.TcCoe Idealize.SL.Sem Cert.KernelIdeal Cert.KernelIdeal.Gen Cert.Soap

variable (V : (c : Dev nD) → (b : Ref sig .tc) → Buf (Elt Ideal) ((c.tc : Thread nD τ).loc b))

/-- The data of row `r` of a step's blocks, in batch entry `b`. -/
def frow (b0 b1 b2 : Vec Ideal S9 .f32) (b3 : Vec Ideal S1x1536x2304 .bf16)
    (b4 : Vec Ideal S1x1536x512 .i8) (b5 : Vec Ideal S1x1x512 .f32) (b6 : Vec Ideal S1x2304x2304 .i8) (b7 : Vec Ideal S1x1x2304 .f32)
    (b8 : Vec Ideal S1x512x2304 .i8) (b9 : Vec Ideal S1x512x18 .f32) (b10 : Vec Ideal S1x512x2304 .i8) (b11 : Vec Ideal S1x512x18 .f32)
    (b : Fin 9) (r : Fin 512) : FwdRow where
  g := fun i k => b3 (ix3 0 i k)
  q := fun i => b4 (ix3 0 i r)
  s := b5 (ix3 0 0 r)
  R := fun k l => b6 (ix3 0 k l)
  rs := fun l => b7 (ix3 0 0 l)
  mc := fun l => b8 (ix3 0 r l)
  ms := fun q => b9 (ix3 0 r q)
  vc := fun l => b10 (ix3 0 r l)
  vs := fun q => b11 (ix3 0 r q)
  c1 := b0 (ix1 b)
  c2 := b1 (ix1 b)
  eps := b2 (ix1 b)

/-- The column block of a column given by its block's first one. -/
theorem blk_off (o : ℕ) (ho : o % 128 = 0) (x : Fin 128) (h) : blk ⟨o + x.val, h⟩ = ⟨o / 128, by omega⟩ := by
  apply Fin.ext
  show (o + x.val) / 128 = o / 128
  omega

/-- A number confined to ±127 converts to the same 8-bit code directly and by way of 32 bits. -/
theorem quant_eq (x : EReal) : Ideal.fptosi 8 (clipRound 4294967169#32 127#32 x) = quant x := by
  unfold quant
  have e1 : (((127#32 : BitVec 32).toInt : ℝ) : EReal) = ((127 : ℝ) : EReal) := by
    rw [show (127#32 : BitVec 32).toInt = 127 by decide]; norm_num
  have e2 : (((4294967169#32 : BitVec 32).toInt : ℝ) : EReal) = ((-127 : ℝ) : EReal) := by
    rw [show (4294967169#32 : BitVec 32).toInt = -127 by decide]; norm_num
  have hhi : clipRound 4294967169#32 127#32 x ≤ ((127 : ℝ) : EReal) := e1 ▸ min_le_left _ _
  have hlo : ((-127 : ℝ) : EReal) ≤ clipRound 4294967169#32 127#32 x := by
    unfold clipRound
    rw [e1, e2]
    exact le_min (EReal.coe_le_coe_iff.mpr (by norm_num)) (le_max_left _ _)
  generalize clipRound 4294967169#32 127#32 x = y at hhi hlo ⊢
  induction y using EReal.rec with
  | bot => exact absurd (le_bot_iff.mp hlo) (EReal.coe_ne_bot _)
  | top => exact absurd (top_le_iff.mp hhi) (EReal.coe_ne_top _)
  | coe z =>
    have h1 := EReal.coe_le_coe_iff.mp hlo
    have h2 := EReal.coe_le_coe_iff.mp hhi
    have hk : ∃ k : ℤ, (if 0 ≤ z then ⌊z⌋ else ⌈z⌉) = k ∧ -127 ≤ k ∧ k ≤ 127 := by
      refine ⟨_, rfl, ?_, ?_⟩
      · split
        · exact Int.le_floor.mpr (by push_cast; linarith)
        · exact Int.cast_le.mp ((show ((-127 : ℤ) : ℝ) ≤ z by push_cast; linarith).trans (Int.le_ceil z))
      · split
        · exact Int.cast_le.mp ((Int.floor_le z).trans (show z ≤ ((127 : ℤ) : ℝ) by push_cast; linarith))
        · exact Int.ceil_le.mpr (by push_cast; linarith)
    obtain ⟨k, hk, k1, k2⟩ := hk
    show BitVec.ofInt 8 (max (-128) (min 127 (if 0 ≤ z then ⌊z⌋ else ⌈z⌉)))
      = (BitVec.ofInt 32 (max (-2147483648) (min 2147483647 (if 0 ≤ z then ⌊z⌋ else ⌈z⌉)))).setWidth 8
    rw [hk, min_eq_right (by omega), max_eq_right (by omega), min_eq_right (by omega), max_eq_right (by omega)]
    apply BitVec.eq_of_toNat_eq
    rw [BitVec.toNat_setWidth, BitVec.toNat_ofInt, BitVec.toNat_ofInt]
    omega

/-- A signed code converted is the code as a number. -/
theorem sitofp_code (φ : FTy) (x : BitVec 8) : FloatOps.sitofp (F := Ideal) φ x = code x := rfl

/-- An unsigned code widened and converted is the code as a number. -/
theorem sitofp_ucode (x : BitVec 8) : FloatOps.sitofp (F := Ideal) .f32 (BitVec.setWidth 32 x) = ucode x := rfl

/-- The ideal instance's absolute value is the magnitude. -/
theorem absf_mag (φ : FTy) (x : Ideal φ) : FloatOps.absf x = mag x := rfl

/-- One link of a chain that picks a column block's value: the value at block `k`, or what the rest of the chain picks. -/
theorem select_block {α : Type} (f : Fin 18 → α) (x : Fin 18) {k : ℕ} {a b : α} (hk : k < 18) (hb : x.val ≠ k → b = f x)
    (ha : a = f ⟨k, hk⟩) : Scalar.select (IntOp.cmpi CmpIPredicate.eq (BitVec.ofNat 32 x.val) (BitVec.ofNat 32 k)) a b = f x := by
  by_cases h : x.val = k
  · subst h
    simpa [Scalar.select, IntOp.cmpi] using ha
  · have e : BitVec.ofNat 32 x.val ≠ BitVec.ofNat 32 k := fun e => h (by
      have := congrArg BitVec.toNat e
      simp only [BitVec.toNat_ofNat] at this
      omega)
    simpa [Scalar.select, IntOp.cmpi, beq_eq_false_iff_ne.mpr e] using hb h

/-- What the kernel's scratch holds once it is written. -/
theorem scratch0 (c : Dev nD) (t : Fin cfg0.N) (b0 b1 b2 : Vec Ideal S9 .f32) (b3 : Vec Ideal S1x1536x2304 .bf16)
    (b4 : Vec Ideal S1x1536x512 .i8) (b5 : Vec Ideal S1x1x512 .f32) (b6 : Vec Ideal S1x2304x2304 .i8) (b7 : Vec Ideal S1x1x2304 .f32)
    (b8 : Vec Ideal S1x512x2304 .i8) (b9 : Vec Ideal S1x512x18 .f32) (b10 : Vec Ideal S1x512x2304 .i8) (b11 : Vec Ideal S1x512x18 .f32) (r : Fin 512) (k : Fin 2304) :
    View.canon (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) b0 b1 b2 b3 b4 b5 b6 b7 b8 b9 b10 b11).2.2.2.2.2.1 (ix2 r k)
      = (frow b0 b1 b2 b3 b4 b5 b6 b7 b8 b9 b10 b11 (grid0.coords t 0) r).t k := by
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread]
  refine (View.canon_apply_of_pieces (fun y => (frow b0 b1 b2 b3 b4 b5 b6 b7 b8 b9 b10 b11 (grid0.coords t 0) (y 0)).t (y 1)) _ ?_ _ ?_).trans rfl
  · simp only [List.forall_mem_cons, List.not_mem_nil, false_imp_iff, implies_true, and_true]
    refine ⟨?_, ?_, ?_, ?_, ?_, ?_, ?_, ?_, ?_⟩
    all_goals
      intro x
      idx_vars x
      refine Eq.trans ?_ (congrArg (fun y : S512x2304.Idx => (frow b0 b1 b2 b3 b4 b5 b6 b7 b8 b9 b10 b11 (grid0.coords t 0) (y 0)).t (y 1)) (emb_unit2 (n0 := 512) (n1 := 2304) _ x0 x1).symm)
      beta_reduce
      unfold FwdRow.t frow
      pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263]
      rfl
  · exact View.cover_of_tiledL _ ![512, 256] (by sl_kernel_rfl) _

end Cert.KernelIdeal.Soap

end
-- ==== Proof.FwdCode.lean ====
/- The forward kernel's first result: the first moment's codes. -/
module

public import proofs.«01_k».proof.Proof.FwdBase

@[expose] public section

set_option maxRecDepth 16384
set_option maxHeartbeats 2000000

noncomputable section

namespace Cert.KernelIdeal.Soap

open Idealize.ShloMosaic Idealize.ShloMosaic.TcCoe Idealize.SL.Sem Cert.KernelIdeal Cert.KernelIdeal.Gen Cert.Soap

variable (V : (c : Dev nD) → (b : Ref sig .tc) → Buf (Elt Ideal) ((c.tc : Thread nD τ).loc b))

/-- The first moment's codes. As a function of the step's blocks, -/
theorem out0_12_of (c : Dev nD) (t : Fin cfg0.N) (b0 b1 b2 : Vec Ideal S9 .f32) (b3 : Vec Ideal S1x1536x2304 .bf16)
    (b4 : Vec Ideal S1x1536x512 .i8) (b5 : Vec Ideal S1x1x512 .f32) (b6 : Vec Ideal S1x2304x2304 .i8) (b7 : Vec Ideal S1x1x2304 .f32)
    (b8 : Vec Ideal S1x512x2304 .i8) (b9 : Vec Ideal S1x512x18 .f32) (b10 : Vec Ideal S1x512x2304 .i8) (b11 : Vec Ideal S1x512x18 .f32) (r : Fin 512) (l : Fin 2304) :
    out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) b0 b1 b2 b3 b4 b5 b6 b7 b8 b9 b10 b11 (ix3 0 r l) = (frow b0 b1 b2 b3 b4 b5 b6 b7 b8 b9 b10 b11 (grid0.coords t 0) r).mcode l := by
  have hc := cover0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) b0 b1 b2 b3 b4 b5 b6 b7 b8 b9 b10 b11 (ix3 0 r l)
  unfold out0_A_12
  rw [View.read_writes_junk_eq_canon]
  refine (View.canon_apply_of_pieces (fun y => (frow b0 b1 b2 b3 b4 b5 b6 b7 b8 b9 b10 b11 (grid0.coords t 0) (y 1)).mcode (y 2)) _ ?_ _ hc).trans rfl
  clear hc
  have hS := scratch0 c t b0 b1 b2 b3 b4 b5 b6 b7 b8 b9 b10 b11
  revert hS
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread]
  intro hS
  simp only [List.forall_mem_cons, List.not_mem_nil, false_imp_iff, implies_true, and_true]
  generalize hR : View.readCov (Val := Elt Ideal) (View.whole cc0_scratch0) _ _ = S
  have hs : ∀ (r : Fin 512) (k : Fin 2304), S (ix2 r k) = (frow b0 b1 b2 b3 b4 b5 b6 b7 b8 b9 b10 b11 (grid0.coords t 0) r).t k := by
    intro r l
    rw [← hR, View.readCov_eq_canon' (Val := Elt Ideal)]
    have e : ∀ h, (Rect.unit (s := S512x2304) ![0, 0] ![512, 2304] h).toLoadRect.idx (ix2 r l) = ix2 r l := fun h =>
      (emb_unit2 h r l).trans (by simp only [Nat.zero_add])
    beta_reduce
    rw [e]
    exact hS r l
  clear hR hS
  obtain ⟨T, hT⟩ : ∃ T : Fin 512 → Fin 2304 → EReal, ∀ r k, (frow b0 b1 b2 b3 b4 b5 b6 b7 b8 b9 b10 b11 (grid0.coords t 0) r).t k = T r k :=
    ⟨_, fun _ _ => rfl⟩
  simp only [hT] at hs
  have hw := batch_index (grid0.coords t 0).val (lt_trans (grid0.coords t 0).isLt (by decide))
  refine ⟨?_, ?_, ?_, ?_, ?_, ?_, ?_, ?_, ?_, ?_, ?_, ?_, ?_, ?_, ?_, ?_, ?_, ?_⟩
  all_goals
    intro x
    idx_vars x
    simp only [emb_unit3, ix3_1, ix3_2, FwdRow.mcode, FwdRow.mscale, FwdRow.mr, FwdRow.gr, hT, blk_off, Nat.reduceMod, Nat.reduceDiv, blk_cell, cell, Nat.reduceMul]
    simp only [frow]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, hs, hw, id_eq]
    simp only [sitofp_code, sitofp_ucode, absf_mag, lit, ← Nat.add_assoc, Nat.reduceAdd]
    exact quant_eq _

/-- and at a step of the grid. -/
theorem out0_12_eq (c : Dev nD) (t : Fin cfg0.N) (r : Fin 512) (l : Fin 2304) :
    (outsAt0 V c t).1 (ix3 0 r l) = (frow (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (grid0.coords t 0) r).mcode l :=
  out0_12_of c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) r l

end Cert.KernelIdeal.Soap

end
-- ==== Proof.FwdScale.lean ====
/- The forward kernel's second result: the first moment's scales. -/
module

public import proofs.«01_k».proof.Proof.FwdBase

@[expose] public section

set_option maxRecDepth 16384
set_option maxHeartbeats 2000000

noncomputable section

namespace Cert.KernelIdeal.Soap

open Idealize.ShloMosaic Idealize.ShloMosaic.TcCoe Idealize.SL.Sem Cert.KernelIdeal Cert.KernelIdeal.Gen Cert.Soap

variable (V : (c : Dev nD) → (b : Ref sig .tc) → Buf (Elt Ideal) ((c.tc : Thread nD τ).loc b))

/-- The first moment's scales. As a function of the step's blocks, -/
theorem out0_13_of (c : Dev nD) (t : Fin cfg0.N) (b0 b1 b2 : Vec Ideal S9 .f32) (b3 : Vec Ideal S1x1536x2304 .bf16)
    (b4 : Vec Ideal S1x1536x512 .i8) (b5 : Vec Ideal S1x1x512 .f32) (b6 : Vec Ideal S1x2304x2304 .i8) (b7 : Vec Ideal S1x1x2304 .f32)
    (b8 : Vec Ideal S1x512x2304 .i8) (b9 : Vec Ideal S1x512x18 .f32) (b10 : Vec Ideal S1x512x2304 .i8) (b11 : Vec Ideal S1x512x18 .f32) (r : Fin 512) (l : Fin 18) :
    out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) b0 b1 b2 b3 b4 b5 b6 b7 b8 b9 b10 b11 (ix3 0 r l) = (frow b0 b1 b2 b3 b4 b5 b6 b7 b8 b9 b10 b11 (grid0.coords t 0) r).mscale l := by
  have hc := cover0_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) b0 b1 b2 b3 b4 b5 b6 b7 b8 b9 b10 b11 (ix3 0 r l)
  unfold out0_A_13
  rw [View.read_writes_junk_eq_canon]
  refine (View.canon_apply_of_pieces (fun y => (frow b0 b1 b2 b3 b4 b5 b6 b7 b8 b9 b10 b11 (grid0.coords t 0) (y 1)).mscale (y 2)) _ ?_ _ hc).trans rfl
  clear hc
  have hS := scratch0 c t b0 b1 b2 b3 b4 b5 b6 b7 b8 b9 b10 b11
  revert hS
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread]
  intro hS
  simp only [List.forall_mem_cons, List.not_mem_nil, false_imp_iff, implies_true, and_true]
  generalize hR : View.readCov (Val := Elt Ideal) (View.whole cc0_scratch0) _ _ = S
  have hs : ∀ (r : Fin 512) (k : Fin 2304), S (ix2 r k) = (frow b0 b1 b2 b3 b4 b5 b6 b7 b8 b9 b10 b11 (grid0.coords t 0) r).t k := by
    intro r l
    rw [← hR, View.readCov_eq_canon' (Val := Elt Ideal)]
    have e : ∀ h, (Rect.unit (s := S512x2304) ![0, 0] ![512, 2304] h).toLoadRect.idx (ix2 r l) = ix2 r l := fun h =>
      (emb_unit2 h r l).trans (by simp only [Nat.zero_add])
    beta_reduce
    rw [e]
    exact hS r l
  clear hR hS
  obtain ⟨T, hT⟩ : ∃ T : Fin 512 → Fin 2304 → EReal, ∀ r k, (frow b0 b1 b2 b3 b4 b5 b6 b7 b8 b9 b10 b11 (grid0.coords t 0) r).t k = T r k :=
    ⟨_, fun _ _ => rfl⟩
  simp only [hT] at hs
  have hw := batch_index (grid0.coords t 0).val (lt_trans (grid0.coords t 0).isLt (by decide))
  obtain ⟨f, hf⟩ : ∃ f : Fin 512 → Fin 18 → EReal, ∀ r q, (frow b0 b1 b2 b3 b4 b5 b6 b7 b8 b9 b10 b11 (grid0.coords t 0) r).mscale q = f r q :=
    ⟨_, fun _ _ => rfl⟩
  intro x
  idx_vars x
  simp only [emb_unit3, ix3_1, ix3_2, Nat.zero_add, Fin.eta, hf]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, hs, hw, id_eq]
  simp only [sitofp_code, sitofp_ucode, absf_mag, lit, ← Nat.add_assoc, Nat.reduceAdd]
  iterate 18 (refine select_block (f x1) x2 (by decide) ?_ ?_; intro _)
  · exfalso
    omega
  all_goals
    refine Eq.trans ?_ (hf _ _)
    simp only [FwdRow.mscale, FwdRow.mr, FwdRow.gr, hT, blk_cell, cell, Nat.reduceMul, Nat.zero_add]
    simp only [frow]
    rfl

/-- and at a step of the grid. -/
theorem out0_13_eq (c : Dev nD) (t : Fin cfg0.N) (r : Fin 512) (l : Fin 18) :
    (outsAt0 V c t).2.1 (ix3 0 r l) = (frow (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (grid0.coords t 0) r).mscale l :=
  out0_13_of c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) r l

end Cert.KernelIdeal.Soap

end
-- ==== Proof.FwdRootCode.lean ====
/- The forward kernel's third result: the codes of the second moment's square root. -/
module

public import proofs.«01_k».proof.Proof.FwdBase

@[expose] public section

set_option maxRecDepth 16384
set_option maxHeartbeats 2000000

noncomputable section

namespace Cert.KernelIdeal.Soap

open Idealize.ShloMosaic Idealize.ShloMosaic.TcCoe Idealize.SL.Sem Cert.KernelIdeal Cert.KernelIdeal.Gen Cert.Soap

variable (V : (c : Dev nD) → (b : Ref sig .tc) → Buf (Elt Ideal) ((c.tc : Thread nD τ).loc b))

/-- The codes of the second moment's square root. As a function of the step's blocks, -/
theorem out0_14_of (c : Dev nD) (t : Fin cfg0.N) (b0 b1 b2 : Vec Ideal S9 .f32) (b3 : Vec Ideal S1x1536x2304 .bf16)
    (b4 : Vec Ideal S1x1536x512 .i8) (b5 : Vec Ideal S1x1x512 .f32) (b6 : Vec Ideal S1x2304x2304 .i8) (b7 : Vec Ideal S1x1x2304 .f32)
    (b8 : Vec Ideal S1x512x2304 .i8) (b9 : Vec Ideal S1x512x18 .f32) (b10 : Vec Ideal S1x512x2304 .i8) (b11 : Vec Ideal S1x512x18 .f32) (r : Fin 512) (l : Fin 2304) :
    out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) b0 b1 b2 b3 b4 b5 b6 b7 b8 b9 b10 b11 (ix3 0 r l) = (frow b0 b1 b2 b3 b4 b5 b6 b7 b8 b9 b10 b11 (grid0.coords t 0) r).vcode l := by
  have hc := cover0_A_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) b0 b1 b2 b3 b4 b5 b6 b7 b8 b9 b10 b11 (ix3 0 r l)
  unfold out0_A_14
  rw [View.read_writes_junk_eq_canon]
  refine (View.canon_apply_of_pieces (fun y => (frow b0 b1 b2 b3 b4 b5 b6 b7 b8 b9 b10 b11 (grid0.coords t 0) (y 1)).vcode (y 2)) _ ?_ _ hc).trans rfl
  clear hc
  have hS := scratch0 c t b0 b1 b2 b3 b4 b5 b6 b7 b8 b9 b10 b11
  revert hS
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread]
  intro hS
  simp only [List.forall_mem_cons, List.not_mem_nil, false_imp_iff, implies_true, and_true]
  generalize hR : View.readCov (Val := Elt Ideal) (View.whole cc0_scratch0) _ _ = S
  have hs : ∀ (r : Fin 512) (k : Fin 2304), S (ix2 r k) = (frow b0 b1 b2 b3 b4 b5 b6 b7 b8 b9 b10 b11 (grid0.coords t 0) r).t k := by
    intro r l
    rw [← hR, View.readCov_eq_canon' (Val := Elt Ideal)]
    have e : ∀ h, (Rect.unit (s := S512x2304) ![0, 0] ![512, 2304] h).toLoadRect.idx (ix2 r l) = ix2 r l := fun h =>
      (emb_unit2 h r l).trans (by simp only [Nat.zero_add])
    beta_reduce
    rw [e]
    exact hS r l
  clear hR hS
  obtain ⟨T, hT⟩ : ∃ T : Fin 512 → Fin 2304 → EReal, ∀ r k, (frow b0 b1 b2 b3 b4 b5 b6 b7 b8 b9 b10 b11 (grid0.coords t 0) r).t k = T r k :=
    ⟨_, fun _ _ => rfl⟩
  simp only [hT] at hs
  have hw := batch_index (grid0.coords t 0).val (lt_trans (grid0.coords t 0).isLt (by decide))
  refine ⟨?_, ?_, ?_, ?_, ?_, ?_, ?_, ?_, ?_, ?_, ?_, ?_, ?_, ?_, ?_, ?_, ?_, ?_⟩
  all_goals
    intro x
    idx_vars x
    simp only [emb_unit3, ix3_1, ix3_2, FwdRow.vcode, FwdRow.vscale, FwdRow.v, FwdRow.gr, hT, blk_off, Nat.reduceMod, Nat.reduceDiv, blk_cell, cell, Nat.reduceMul]
    simp only [frow]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, hs, hw, id_eq]
    simp only [sitofp_code, sitofp_ucode, absf_mag, lit, ← Nat.add_assoc, Nat.reduceAdd]
    rfl

/-- and at a step of the grid. -/
theorem out0_14_eq (c : Dev nD) (t : Fin cfg0.N) (r : Fin 512) (l : Fin 2304) :
    (outsAt0 V c t).2.2.1 (ix3 0 r l) = (frow (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (grid0.coords t 0) r).vcode l :=
  out0_14_of c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) r l

end Cert.KernelIdeal.Soap

end
-- ==== Proof.FwdRootScale.lean ====
/- The forward kernel's fourth result: the scales of the second moment's square root. -/
module

public import proofs.«01_k».proof.Proof.FwdBase

@[expose] public section

set_option maxRecDepth 16384
set_option maxHeartbeats 2000000

noncomputable section

namespace Cert.KernelIdeal.Soap

open Idealize.ShloMosaic Idealize.ShloMosaic.TcCoe Idealize.SL.Sem Cert.KernelIdeal Cert.KernelIdeal.Gen Cert.Soap

variable (V : (c : Dev nD) → (b : Ref sig .tc) → Buf (Elt Ideal) ((c.tc : Thread nD τ).loc b))

/-- The scales of the second moment's square root. As a function of the step's blocks, -/
theorem out0_15_of (c : Dev nD) (t : Fin cfg0.N) (b0 b1 b2 : Vec Ideal S9 .f32) (b3 : Vec Ideal S1x1536x2304 .bf16)
    (b4 : Vec Ideal S1x1536x512 .i8) (b5 : Vec Ideal S1x1x512 .f32) (b6 : Vec Ideal S1x2304x2304 .i8) (b7 : Vec Ideal S1x1x2304 .f32)
    (b8 : Vec Ideal S1x512x2304 .i8) (b9 : Vec Ideal S1x512x18 .f32) (b10 : Vec Ideal S1x512x2304 .i8) (b11 : Vec Ideal S1x512x18 .f32) (r : Fin 512) (l : Fin 18) :
    out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) b0 b1 b2 b3 b4 b5 b6 b7 b8 b9 b10 b11 (ix3 0 r l) = (frow b0 b1 b2 b3 b4 b5 b6 b7 b8 b9 b10 b11 (grid0.coords t 0) r).vscale l := by
  have hc := cover0_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) b0 b1 b2 b3 b4 b5 b6 b7 b8 b9 b10 b11 (ix3 0 r l)
  unfold out0_A_15
  rw [View.read_writes_junk_eq_canon]
  refine (View.canon_apply_of_pieces (fun y => (frow b0 b1 b2 b3 b4 b5 b6 b7 b8 b9 b10 b11 (grid0.coords t 0) (y 1)).vscale (y 2)) _ ?_ _ hc).trans rfl
  clear hc
  have hS := scratch0 c t b0 b1 b2 b3 b4 b5 b6 b7 b8 b9 b10 b11
  revert hS
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread]
  intro hS
  simp only [List.forall_mem_cons, List.not_mem_nil, false_imp_iff, implies_true, and_true]
  generalize hR : View.readCov (Val := Elt Ideal) (View.whole cc0_scratch0) _ _ = S
  have hs : ∀ (r : Fin 512) (k : Fin 2304), S (ix2 r k) = (frow b0 b1 b2 b3 b4 b5 b6 b7 b8 b9 b10 b11 (grid0.coords t 0) r).t k := by
    intro r l
    rw [← hR, View.readCov_eq_canon' (Val := Elt Ideal)]
    have e : ∀ h, (Rect.unit (s := S512x2304) ![0, 0] ![512, 2304] h).toLoadRect.idx (ix2 r l) = ix2 r l := fun h =>
      (emb_unit2 h r l).trans (by simp only [Nat.zero_add])
    beta_reduce
    rw [e]
    exact hS r l
  clear hR hS
  obtain ⟨T, hT⟩ : ∃ T : Fin 512 → Fin 2304 → EReal, ∀ r k, (frow b0 b1 b2 b3 b4 b5 b6 b7 b8 b9 b10 b11 (grid0.coords t 0) r).t k = T r k :=
    ⟨_, fun _ _ => rfl⟩
  simp only [hT] at hs
  have hw := batch_index (grid0.coords t 0).val (lt_trans (grid0.coords t 0).isLt (by decide))
  obtain ⟨f, hf⟩ : ∃ f : Fin 512 → Fin 18 → EReal, ∀ r q, (frow b0 b1 b2 b3 b4 b5 b6 b7 b8 b9 b10 b11 (grid0.coords t 0) r).vscale q = f r q :=
    ⟨_, fun _ _ => rfl⟩
  intro x
  idx_vars x
  simp only [emb_unit3, ix3_1, ix3_2, Nat.zero_add, Fin.eta, hf]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, hs, hw, id_eq]
  simp only [sitofp_code, sitofp_ucode, absf_mag, lit, ← Nat.add_assoc, Nat.reduceAdd]
  iterate 18 (refine select_block (f x1) x2 (by decide) ?_ ?_; intro _)
  · exfalso
    omega
  all_goals
    refine Eq.trans ?_ (hf _ _)
    simp only [FwdRow.vscale, FwdRow.v, FwdRow.gr, hT, blk_cell, cell, Nat.reduceMul, Nat.zero_add]
    simp only [frow]
    rfl

/-- and at a step of the grid. -/
theorem out0_15_eq (c : Dev nD) (t : Fin cfg0.N) (r : Fin 512) (l : Fin 18) :
    (outsAt0 V c t).2.2.2.1 (ix3 0 r l) = (frow (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (grid0.coords t 0) r).vscale l :=
  out0_15_of c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) r l

end Cert.KernelIdeal.Soap

end
-- ==== Proof.FwdDir.lean ====
/- The forward kernel's fifth result: the normalized direction. -/
module

public import proofs.«01_k».proof.Proof.FwdBase

@[expose] public section

set_option maxRecDepth 16384
set_option maxHeartbeats 2000000

noncomputable section

namespace Cert.KernelIdeal.Soap

open Idealize.ShloMosaic Idealize.ShloMosaic.TcCoe Idealize.SL.Sem Cert.KernelIdeal Cert.KernelIdeal.Gen Cert.Soap

variable (V : (c : Dev nD) → (b : Ref sig .tc) → Buf (Elt Ideal) ((c.tc : Thread nD τ).loc b))

/-- The normalized direction. As a function of the step's blocks, -/
theorem out0_16_of (c : Dev nD) (t : Fin cfg0.N) (b0 b1 b2 : Vec Ideal S9 .f32) (b3 : Vec Ideal S1x1536x2304 .bf16)
    (b4 : Vec Ideal S1x1536x512 .i8) (b5 : Vec Ideal S1x1x512 .f32) (b6 : Vec Ideal S1x2304x2304 .i8) (b7 : Vec Ideal S1x1x2304 .f32)
    (b8 : Vec Ideal S1x512x2304 .i8) (b9 : Vec Ideal S1x512x18 .f32) (b10 : Vec Ideal S1x512x2304 .i8) (b11 : Vec Ideal S1x512x18 .f32) (r : Fin 512) (l : Fin 2304) :
    out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) b0 b1 b2 b3 b4 b5 b6 b7 b8 b9 b10 b11 (ix3 0 r l) = (frow b0 b1 b2 b3 b4 b5 b6 b7 b8 b9 b10 b11 (grid0.coords t 0) r).n l := by
  have hc := cover0_A_16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) b0 b1 b2 b3 b4 b5 b6 b7 b8 b9 b10 b11 (ix3 0 r l)
  unfold out0_A_16
  rw [View.read_writes_junk_eq_canon]
  refine (View.canon_apply_of_pieces (fun y => (frow b0 b1 b2 b3 b4 b5 b6 b7 b8 b9 b10 b11 (grid0.coords t 0) (y 1)).n (y 2)) _ ?_ _ hc).trans rfl
  clear hc
  have hS := scratch0 c t b0 b1 b2 b3 b4 b5 b6 b7 b8 b9 b10 b11
  revert hS
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread]
  intro hS
  simp only [List.forall_mem_cons, List.not_mem_nil, false_imp_iff, implies_true, and_true]
  generalize hR : View.readCov (Val := Elt Ideal) (View.whole cc0_scratch0) _ _ = S
  have hs : ∀ (r : Fin 512) (k : Fin 2304), S (ix2 r k) = (frow b0 b1 b2 b3 b4 b5 b6 b7 b8 b9 b10 b11 (grid0.coords t 0) r).t k := by
    intro r l
    rw [← hR, View.readCov_eq_canon' (Val := Elt Ideal)]
    have e : ∀ h, (Rect.unit (s := S512x2304) ![0, 0] ![512, 2304] h).toLoadRect.idx (ix2 r l) = ix2 r l := fun h =>
      (emb_unit2 h r l).trans (by simp only [Nat.zero_add])
    beta_reduce
    rw [e]
    exact hS r l
  clear hR hS
  obtain ⟨T, hT⟩ : ∃ T : Fin 512 → Fin 2304 → EReal, ∀ r k, (frow b0 b1 b2 b3 b4 b5 b6 b7 b8 b9 b10 b11 (grid0.coords t 0) r).t k = T r k :=
    ⟨_, fun _ _ => rfl⟩
  simp only [hT] at hs
  have hw := batch_index (grid0.coords t 0).val (lt_trans (grid0.coords t 0).isLt (by decide))
  refine ⟨?_, ?_, ?_, ?_, ?_, ?_, ?_, ?_, ?_, ?_, ?_, ?_, ?_, ?_, ?_, ?_, ?_, ?_⟩
  all_goals
    intro x
    idx_vars x
    simp only [emb_unit3, ix3_1, ix3_2, FwdRow.n, FwdRow.v, FwdRow.mr, FwdRow.gr, hT, blk_off, Nat.reduceMod, Nat.reduceDiv, blk_cell, cell, Nat.reduceMul]
    simp only [frow]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, hs, hw, id_eq]
    try simp only [sitofp_code, sitofp_ucode, absf_mag, lit, ← Nat.add_assoc, Nat.reduceAdd]
    try rfl

/-- and at a step of the grid. -/
theorem out0_16_eq (c : Dev nD) (t : Fin cfg0.N) (r : Fin 512) (l : Fin 2304) :
    (outsAt0 V c t).2.2.2.2 (ix3 0 r l) = (frow (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (grid0.coords t 0) r).n l :=
  out0_16_of c t (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) r l

end Cert.KernelIdeal.Soap

end
-- ==== Proof.Fwd.lean ====
/- The forward kernel: what its five result arrays hold when it ends. -/
module

public import proofs.«01_k».proof.Proof.FwdCode
public import proofs.«01_k».proof.Proof.FwdScale
public import proofs.«01_k».proof.Proof.FwdRootCode
public import proofs.«01_k».proof.Proof.FwdRootScale
public import proofs.«01_k».proof.Proof.FwdDir

@[expose] public section

set_option maxRecDepth 16384
set_option maxHeartbeats 2000000

noncomputable section

namespace Cert.KernelIdeal.Soap

open Idealize.ShloMosaic Idealize.ShloMosaic.TcCoe Idealize.SL.Sem Cert.KernelIdeal Cert.KernelIdeal.Gen Cert.Soap

variable (V : (c : Dev nD) → (b : Ref sig .tc) → Buf (Elt Ideal) ((c.tc : Thread nD τ).loc b))

/-! ## One step's blocks -/

/-- Input block 0 of a step holds the first moment's bias corrections, whole. -/
theorem iblk0_0 (c : Dev nD) (t : Fin cfg0.N) (b : Fin 9) : iblk0 V c 0 t (ix1 b) = (kargs V c).c1 b :=
  congrArg (V c main_arg12) (blk_idx1 _ _ b b (Nat.zero_add _).symm)

/-- Input block 1 of a step holds the second moment's bias corrections, whole. -/
theorem iblk0_1 (c : Dev nD) (t : Fin cfg0.N) (b : Fin 9) : iblk0 V c 1 t (ix1 b) = (kargs V c).c2 b :=
  congrArg (V c main_arg13) (blk_idx1 _ _ b b (Nat.zero_add _).symm)

/-- Input block 2 of a step holds the epsilons, whole. -/
theorem iblk0_2 (c : Dev nD) (t : Fin cfg0.N) (b : Fin 9) : iblk0 V c 2 t (ix1 b) = (kargs V c).eps b :=
  congrArg (V c main_arg14) (blk_idx1 _ _ b b (Nat.zero_add _).symm)

/-- Input block 3 of a step holds the batch's gradient. -/
theorem iblk0_3 (c : Dev nD) (t : Fin cfg0.N) (i : Fin 1536) (k : Fin 2304) :
    iblk0 V c 3 t (ix3 0 i k) = (kargs V c).g (grid0.coords t 0) i k :=
  congrArg (V c main_arg1) (blk_idx3 _ _ 0 i k (grid0.coords t 0) i k
    (word_val (by decide) _) (Nat.zero_add _).symm (Nat.zero_add _).symm)

/-- Input block 4 of a step holds the step's columns of the left basis codes. -/
theorem iblk0_4 (c : Dev nD) (t : Fin cfg0.N) (i : Fin 1536) (r : Fin 512) :
    iblk0 V c 4 t (ix3 0 i r) = (kargs V c).ql (grid0.coords t 0) i (srow 512 3 rfl (grid0.coords t 1) r) :=
  congrArg (V c main_arg8) (blk_idx3 _ _ 0 i r (grid0.coords t 0) i (srow 512 3 rfl (grid0.coords t 1) r)
    (word_val (by decide) _) (Nat.zero_add _).symm (srow_val 512 3 rfl (by decide) _ _))

/-- Input block 5 of a step holds the step's left basis scales. -/
theorem iblk0_5 (c : Dev nD) (t : Fin cfg0.N) (r : Fin 512) :
    iblk0 V c 5 t (ix3 0 0 r) = (kargs V c).qls (grid0.coords t 0) (srow 512 3 rfl (grid0.coords t 1) r) :=
  congrArg (V c main_v0) (blk_idx3 _ _ 0 0 r (grid0.coords t 0) 0 (srow 512 3 rfl (grid0.coords t 1) r)
    (word_val (by decide) _) rfl (srow_val 512 3 rfl (by decide) _ _))

/-- Input block 6 of a step holds the batch's right basis codes. -/
theorem iblk0_6 (c : Dev nD) (t : Fin cfg0.N) (k l : Fin 2304) :
    iblk0 V c 6 t (ix3 0 k l) = (kargs V c).qr (grid0.coords t 0) k l :=
  congrArg (V c main_arg10) (blk_idx3 _ _ 0 k l (grid0.coords t 0) k l
    (word_val (by decide) _) (Nat.zero_add _).symm (Nat.zero_add _).symm)

/-- Input block 7 of a step holds the batch's right basis scales. -/
theorem iblk0_7 (c : Dev nD) (t : Fin cfg0.N) (l : Fin 2304) :
    iblk0 V c 7 t (ix3 0 0 l) = (kargs V c).qrs (grid0.coords t 0) l :=
  congrArg (V c main_v1) (blk_idx3 _ _ 0 0 l (grid0.coords t 0) 0 l
    (word_val (by decide) _) rfl (Nat.zero_add _).symm)

/-- Input block 8 of a step holds the step's rows of the first moment's codes. -/
theorem iblk0_8 (c : Dev nD) (t : Fin cfg0.N) (r : Fin 512) (l : Fin 2304) :
    iblk0 V c 8 t (ix3 0 r l) = (kargs V c).mc (grid0.coords t 0) (srow 512 3 rfl (grid0.coords t 1) r) l :=
  congrArg (V c main_arg2) (blk_idx3 _ _ 0 r l (grid0.coords t 0) (srow 512 3 rfl (grid0.coords t 1) r) l
    (word_val (by decide) _) (srow_val 512 3 rfl (by decide) _ _) (Nat.zero_add _).symm)

/-- Input block 9 of a step holds the step's rows of the first moment's scales. -/
theorem iblk0_9 (c : Dev nD) (t : Fin cfg0.N) (r : Fin 512) (l : Fin 18) :
    iblk0 V c 9 t (ix3 0 r l) = (kargs V c).ms (grid0.coords t 0) (srow 512 3 rfl (grid0.coords t 1) r) l :=
  congrArg (V c main_arg3) (blk_idx3 _ _ 0 r l (grid0.coords t 0) (srow 512 3 rfl (grid0.coords t 1) r) l
    (word_val (by decide) _) (srow_val 512 3 rfl (by decide) _ _) (Nat.zero_add _).symm)

/-- Input block 10 of a step holds the step's rows of the second moment's codes. -/
theorem iblk0_10 (c : Dev nD) (t : Fin cfg0.N) (r : Fin 512) (l : Fin 2304) :
    iblk0 V c 10 t (ix3 0 r l) = (kargs V c).vc (grid0.coords t 0) (srow 512 3 rfl (grid0.coords t 1) r) l :=
  congrArg (V c main_arg4) (blk_idx3 _ _ 0 r l (grid0.coords t 0) (srow 512 3 rfl (grid0.coords t 1) r) l
    (word_val (by decide) _) (srow_val 512 3 rfl (by decide) _ _) (Nat.zero_add _).symm)

/-- Input block 11 of a step holds the step's rows of the second moment's scales. -/
theorem iblk0_11 (c : Dev nD) (t : Fin cfg0.N) (r : Fin 512) (l : Fin 18) :
    iblk0 V c 11 t (ix3 0 r l) = (kargs V c).vs (grid0.coords t 0) (srow 512 3 rfl (grid0.coords t 1) r) l :=
  congrArg (V c main_arg5) (blk_idx3 _ _ 0 r l (grid0.coords t 0) (srow 512 3 rfl (grid0.coords t 1) r) l
    (word_val (by decide) _) (srow_val 512 3 rfl (by decide) _ _) (Nat.zero_add _).symm)

/-- The data of a row of a step is the data of the row of the whole that it is. -/
theorem frow_eq (c : Dev nD) (t : Fin cfg0.N) (r : Fin 512) :
    frow (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (grid0.coords t 0) r
      = (kargs V c).row (grid0.coords t 0) (srow 512 3 rfl (grid0.coords t 1) r) := by
  unfold frow Args.row
  congr 1
  · funext i k; exact iblk0_3 V c t i k
  · funext i; exact iblk0_4 V c t i r
  · exact iblk0_5 V c t r
  · funext k l; exact iblk0_6 V c t k l
  · funext l; exact iblk0_7 V c t l
  · funext l; exact iblk0_8 V c t r l
  · funext l; exact iblk0_9 V c t r l
  · funext l; exact iblk0_10 V c t r l
  · funext l; exact iblk0_11 V c t r l
  · exact iblk0_0 V c t _
  · exact iblk0_1 V c t _
  · exact iblk0_2 V c t _

/-! ## The whole arrays -/

/-- Every row of the arrays is a row of some step. -/
theorem steps0 (b : Fin 9) (j : Fin 1536) :
    ∃ (t : Fin cfg0.N) (r : Fin 512), b = (grid0.coords t 0) ∧ j = (srow 512 3 rfl (grid0.coords t 1) r) := by
  obtain ⟨k, r, rfl⟩ := srow_surj 512 3 rfl j
  obtain ⟨t, ht⟩ := Pipeline.Grid.coords_surjective grid0 (fun | ⟨0, _⟩ => b | ⟨1, _⟩ => k)
  exact ⟨t, r, by rw [ht], by rw [ht]⟩

/-- Where an entry of a step's block of first moment codes lies in the array. -/
theorem rows0_12 (t : Fin cfg0.N) (r : Fin 512) (l : Fin 2304) :
    (win0_12.rect t).emb (ix3 0 r l) = (ix3 (grid0.coords t 0) (srow 512 3 rfl (grid0.coords t 1) r) l : S9x1536x2304.Idx) :=
  blk_idx3 _ _ 0 r l (grid0.coords t 0) (srow 512 3 rfl (grid0.coords t 1) r) l (word_val (by decide) _) (srow_val 512 3 rfl (by decide) _ _) (Nat.zero_add _).symm

/-- The first moment's codes, when the kernel ends. -/
theorem arr_mcode (c : Dev nD) : (dat0 V c).arrAt 12 cfg0.N = fun y : S9x1536x2304.Idx => ((kargs V c).row (y 0) (y 1)).mcode (y 2) := by
  refine (dat0 V c).arrAt_eq_of_cover 12 (fun y : S9x1536x2304.Idx => ((kargs V c).row (y 0) (y 1)).mcode (y 2)) (fun t _ => ?_) (fun y => ?_)
  · show (cfg0.win 12).cut (grid0.coords t) ((dat0 V c).after 12 t) = _
    rw [after0_12]
    funext x
    obtain ⟨a, r, l, rfl⟩ : ∃ (a : Fin 1) (r : Fin 512) (l : Fin 2304), x = ix3 a r l := ⟨_, _, _, eq_ix3 x⟩
    obtain rfl : a = 0 := Subsingleton.elim _ _
    exact ((out0_12_eq V c t r l).trans (congrArg (fun z : FwdRow => z.mcode l) (frow_eq V c t r))).trans
      (congrArg (fun y : S9x1536x2304.Idx => ((kargs V c).row (y 0) (y 1)).mcode (y 2)) (rows0_12 t r l)).symm
  · obtain ⟨b, j, l, rfl⟩ : ∃ (b : Fin 9) (j : Fin 1536) (l : Fin 2304), y = ix3 b j l := ⟨_, _, _, eq_ix3 y⟩
    obtain ⟨t, r, rfl, rfl⟩ := steps0 b j
    refine ⟨t, flush0_12 t, ?_⟩
    show _ ∈ ((View.whole main_v2_0).slice (win0_12.rect t)).set
    rw [View.set_slice_whole]
    exact rows0_12 t r l ▸ (win0_12.rect t).idx_mem _

/-- Where an entry of a step's block of first moment scales lies in the array. -/
theorem rows0_13 (t : Fin cfg0.N) (r : Fin 512) (l : Fin 18) :
    (win0_13.rect t).emb (ix3 0 r l) = (ix3 (grid0.coords t 0) (srow 512 3 rfl (grid0.coords t 1) r) l : S9x1536x18.Idx) :=
  blk_idx3 _ _ 0 r l (grid0.coords t 0) (srow 512 3 rfl (grid0.coords t 1) r) l (word_val (by decide) _) (srow_val 512 3 rfl (by decide) _ _) (Nat.zero_add _).symm

/-- The first moment's scales, when the kernel ends. -/
theorem arr_mscale (c : Dev nD) : (dat0 V c).arrAt 13 cfg0.N = fun y : S9x1536x18.Idx => ((kargs V c).row (y 0) (y 1)).mscale (y 2) := by
  refine (dat0 V c).arrAt_eq_of_cover 13 (fun y : S9x1536x18.Idx => ((kargs V c).row (y 0) (y 1)).mscale (y 2)) (fun t _ => ?_) (fun y => ?_)
  · show (cfg0.win 13).cut (grid0.coords t) ((dat0 V c).after 13 t) = _
    rw [after0_13]
    funext x
    obtain ⟨a, r, l, rfl⟩ : ∃ (a : Fin 1) (r : Fin 512) (l : Fin 18), x = ix3 a r l := ⟨_, _, _, eq_ix3 x⟩
    obtain rfl : a = 0 := Subsingleton.elim _ _
    exact ((out0_13_eq V c t r l).trans (congrArg (fun z : FwdRow => z.mscale l) (frow_eq V c t r))).trans
      (congrArg (fun y : S9x1536x18.Idx => ((kargs V c).row (y 0) (y 1)).mscale (y 2)) (rows0_13 t r l)).symm
  · obtain ⟨b, j, l, rfl⟩ : ∃ (b : Fin 9) (j : Fin 1536) (l : Fin 18), y = ix3 b j l := ⟨_, _, _, eq_ix3 y⟩
    obtain ⟨t, r, rfl, rfl⟩ := steps0 b j
    refine ⟨t, flush0_13 t, ?_⟩
    show _ ∈ ((View.whole main_v2_1).slice (win0_13.rect t)).set
    rw [View.set_slice_whole]
    exact rows0_13 t r l ▸ (win0_13.rect t).idx_mem _

/-- Where an entry of a step's block of second moment codes lies in the array. -/
theorem rows0_14 (t : Fin cfg0.N) (r : Fin 512) (l : Fin 2304) :
    (win0_14.rect t).emb (ix3 0 r l) = (ix3 (grid0.coords t 0) (srow 512 3 rfl (grid0.coords t 1) r) l : S9x1536x2304.Idx) :=
  blk_idx3 _ _ 0 r l (grid0.coords t 0) (srow 512 3 rfl (grid0.coords t 1) r) l (word_val (by decide) _) (srow_val 512 3 rfl (by decide) _ _) (Nat.zero_add _).symm

/-- The codes of the second moment's square root, when the kernel ends. -/
theorem arr_vcode (c : Dev nD) : (dat0 V c).arrAt 14 cfg0.N = fun y : S9x1536x2304.Idx => ((kargs V c).row (y 0) (y 1)).vcode (y 2) := by
  refine (dat0 V c).arrAt_eq_of_cover 14 (fun y : S9x1536x2304.Idx => ((kargs V c).row (y 0) (y 1)).vcode (y 2)) (fun t _ => ?_) (fun y => ?_)
  · show (cfg0.win 14).cut (grid0.coords t) ((dat0 V c).after 14 t) = _
    rw [after0_14]
    funext x
    obtain ⟨a, r, l, rfl⟩ : ∃ (a : Fin 1) (r : Fin 512) (l : Fin 2304), x = ix3 a r l := ⟨_, _, _, eq_ix3 x⟩
    obtain rfl : a = 0 := Subsingleton.elim _ _
    exact ((out0_14_eq V c t r l).trans (congrArg (fun z : FwdRow => z.vcode l) (frow_eq V c t r))).trans
      (congrArg (fun y : S9x1536x2304.Idx => ((kargs V c).row (y 0) (y 1)).vcode (y 2)) (rows0_14 t r l)).symm
  · obtain ⟨b, j, l, rfl⟩ : ∃ (b : Fin 9) (j : Fin 1536) (l : Fin 2304), y = ix3 b j l := ⟨_, _, _, eq_ix3 y⟩
    obtain ⟨t, r, rfl, rfl⟩ := steps0 b j
    refine ⟨t, flush0_14 t, ?_⟩
    show _ ∈ ((View.whole main_v2_2).slice (win0_14.rect t)).set
    rw [View.set_slice_whole]
    exact rows0_14 t r l ▸ (win0_14.rect t).idx_mem _

/-- Where an entry of a step's block of second moment scales lies in the array. -/
theorem rows0_15 (t : Fin cfg0.N) (r : Fin 512) (l : Fin 18) :
    (win0_15.rect t).emb (ix3 0 r l) = (ix3 (grid0.coords t 0) (srow 512 3 rfl (grid0.coords t 1) r) l : S9x1536x18.Idx) :=
  blk_idx3 _ _ 0 r l (grid0.coords t 0) (srow 512 3 rfl (grid0.coords t 1) r) l (word_val (by decide) _) (srow_val 512 3 rfl (by decide) _ _) (Nat.zero_add _).symm

/-- The scales of the second moment's square root, when the kernel ends. -/
theorem arr_vscale (c : Dev nD) : (dat0 V c).arrAt 15 cfg0.N = fun y : S9x1536x18.Idx => ((kargs V c).row (y 0) (y 1)).vscale (y 2) := by
  refine (dat0 V c).arrAt_eq_of_cover 15 (fun y : S9x1536x18.Idx => ((kargs V c).row (y 0) (y 1)).vscale (y 2)) (fun t _ => ?_) (fun y => ?_)
  · show (cfg0.win 15).cut (grid0.coords t) ((dat0 V c).after 15 t) = _
    rw [after0_15]
    funext x
    obtain ⟨a, r, l, rfl⟩ : ∃ (a : Fin 1) (r : Fin 512) (l : Fin 18), x = ix3 a r l := ⟨_, _, _, eq_ix3 x⟩
    obtain rfl : a = 0 := Subsingleton.elim _ _
    exact ((out0_15_eq V c t r l).trans (congrArg (fun z : FwdRow => z.vscale l) (frow_eq V c t r))).trans
      (congrArg (fun y : S9x1536x18.Idx => ((kargs V c).row (y 0) (y 1)).vscale (y 2)) (rows0_15 t r l)).symm
  · obtain ⟨b, j, l, rfl⟩ : ∃ (b : Fin 9) (j : Fin 1536) (l : Fin 18), y = ix3 b j l := ⟨_, _, _, eq_ix3 y⟩
    obtain ⟨t, r, rfl, rfl⟩ := steps0 b j
    refine ⟨t, flush0_15 t, ?_⟩
    show _ ∈ ((View.whole main_v2_3).slice (win0_15.rect t)).set
    rw [View.set_slice_whole]
    exact rows0_15 t r l ▸ (win0_15.rect t).idx_mem _

/-- Where an entry of a step's block of directions lies in the array. -/
theorem rows0_16 (t : Fin cfg0.N) (r : Fin 512) (l : Fin 2304) :
    (win0_16.rect t).emb (ix3 0 r l) = (ix3 (grid0.coords t 0) (srow 512 3 rfl (grid0.coords t 1) r) l : S9x1536x2304.Idx) :=
  blk_idx3 _ _ 0 r l (grid0.coords t 0) (srow 512 3 rfl (grid0.coords t 1) r) l (word_val (by decide) _) (srow_val 512 3 rfl (by decide) _ _) (Nat.zero_add _).symm

/-- The normalized direction, when the kernel ends. -/
theorem arr_dir (c : Dev nD) : (dat0 V c).arrAt 16 cfg0.N = fun y : S9x1536x2304.Idx => ((kargs V c).row (y 0) (y 1)).n (y 2) := by
  refine (dat0 V c).arrAt_eq_of_cover 16 (fun y : S9x1536x2304.Idx => ((kargs V c).row (y 0) (y 1)).n (y 2)) (fun t _ => ?_) (fun y => ?_)
  · show (cfg0.win 16).cut (grid0.coords t) ((dat0 V c).after 16 t) = _
    rw [after0_16]
    funext x
    obtain ⟨a, r, l, rfl⟩ : ∃ (a : Fin 1) (r : Fin 512) (l : Fin 2304), x = ix3 a r l := ⟨_, _, _, eq_ix3 x⟩
    obtain rfl : a = 0 := Subsingleton.elim _ _
    exact ((out0_16_eq V c t r l).trans (congrArg (fun z : FwdRow => z.n l) (frow_eq V c t r))).trans
      (congrArg (fun y : S9x1536x2304.Idx => ((kargs V c).row (y 0) (y 1)).n (y 2)) (rows0_16 t r l)).symm
  · obtain ⟨b, j, l, rfl⟩ : ∃ (b : Fin 9) (j : Fin 1536) (l : Fin 2304), y = ix3 b j l := ⟨_, _, _, eq_ix3 y⟩
    obtain ⟨t, r, rfl, rfl⟩ := steps0 b j
    refine ⟨t, flush0_16 t, ?_⟩
    show _ ∈ ((View.whole main_v2_4).slice (win0_16.rect t)).set
    rw [View.set_slice_whole]
    exact rows0_16 t r l ▸ (win0_16.rect t).idx_mem _

end Cert.KernelIdeal.Soap

end
-- ==== Proof.Run.lean ====
/- The kernel's run: what every result array holds when it ends, as a function of what the arguments hold when it starts. -/
module

public import proofs.«01_k».proof.Proof.Left
public import proofs.«01_k».proof.Proof.Right
public import proofs.«01_k».proof.Proof.Back
public import proofs.«01_k».proof.Proof.Fwd
public import Idealize.ShloMosaic.Lib.StableHlo.Run

@[expose] public section

set_option maxRecDepth 16384
set_option maxHeartbeats 2000000

noncomputable section

namespace Cert.KernelIdeal.Soap

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.Soap

variable (m : (ℓ : Loc nD τ sig) → Buf (Elt Ideal) ℓ) (ρ : Dev nD → PrngReg)

/-! ## The run: every array ends at the last boundary's contents -/

set_option backward.isDefEq.respectTransparency.types false in
/-- Every execution from zero counters terminates with every array at the contents that the last kernel leaves. -/
theorem run_held : θ_run defs (onTc (τ := τ) (main (F := Ideal))) ⟨m, fun _ => 0, ρ⟩ (fun r => ∀ c : Dev nD,
    ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

/-! ## What each kernel reads -/

/-- The arguments, as functions of their coordinates. -/
def margs (c : Dev nD) : Args where
  w := fun b i j => m ((c.tc : Thread nD τ).loc main_arg0) (ix3 b i j)
  g := fun b i j => m ((c.tc : Thread nD τ).loc main_arg1) (ix3 b i j)
  mc := fun b i j => m ((c.tc : Thread nD τ).loc main_arg2) (ix3 b i j)
  ms := fun b i j => m ((c.tc : Thread nD τ).loc main_arg3) (ix3 b i j)
  vc := fun b i j => m ((c.tc : Thread nD τ).loc main_arg4) (ix3 b i j)
  vs := fun b i j => m ((c.tc : Thread nD τ).loc main_arg5) (ix3 b i j)
  l := fun b i j => m ((c.tc : Thread nD τ).loc main_arg6) (ix3 b i j)
  r := fun b i j => m ((c.tc : Thread nD τ).loc main_arg7) (ix3 b i j)
  ql := fun b i j => m ((c.tc : Thread nD τ).loc main_arg8) (ix3 b i j)
  qls := fun b i => m ((c.tc : Thread nD τ).loc main_arg9) (ix2 b i)
  qr := fun b i j => m ((c.tc : Thread nD τ).loc main_arg10) (ix3 b i j)
  qrs := fun b i => m ((c.tc : Thread nD τ).loc main_arg11) (ix2 b i)
  c1 := fun b => m ((c.tc : Thread nD τ).loc main_arg12) (ix1 b)
  c2 := fun b => m ((c.tc : Thread nD τ).loc main_arg13) (ix1 b)
  eps := fun b => m ((c.tc : Thread nD τ).loc main_arg14) (ix1 b)
  lr := fun b => m ((c.tc : Thread nD τ).loc main_arg15) (ix1 b)
  wd := fun b => m ((c.tc : Thread nD τ).loc main_arg16) (ix1 b)

/-- The left basis' scales with a unit axis are the left basis' scales, -/
theorem v0_eq (c : Dev nD) (b : Fin 9) (i : Fin 1536) :
    V1 m ρ c main_v0 (ix3 b 0 i : S9x1x1536.Idx) = m ((c.tc : Thread nD τ).loc main_arg9) (ix2 b i) := by
  have h : V1 m ρ c main_v0 = shapeCast S9x1x1536 (m ((c.tc : Thread nD τ).loc main_arg9)) shapeCasts_S9x1536_S9x1x1536 := by
    show StableHlo.after hostOps0 (W0 m ρ c) (Proc.devRef .tc main_v0) = _
    after_results_simp <;> rfl
  rw [h]
  pointwise []

/-- and so are the right one's. -/
theorem v1_eq (c : Dev nD) (b : Fin 9) (i : Fin 2304) :
    V1 m ρ c main_v1 (ix3 b 0 i : S9x1x2304.Idx) = m ((c.tc : Thread nD τ).loc main_arg11) (ix2 b i) := by
  have h : V1 m ρ c main_v1 = shapeCast S9x1x2304 (m ((c.tc : Thread nD τ).loc main_arg11)) shapeCasts_S9x2304_S9x1x2304 := by
    show StableHlo.after hostOps0 (W0 m ρ c) (Proc.devRef .tc main_v1) = _
    after_results_simp <;> rfl
  rw [h]
  pointwise []

/-- The arrays that some kernel reads and none writes. -/
abbrev inRefs : List (Ref sig .tc) :=
  [main_arg0, main_arg1, main_arg2, main_arg3, main_arg4, main_arg5, main_arg6, main_arg7, main_arg8, main_v0, main_arg10, main_v1,
    main_arg12, main_arg13, main_arg14, main_arg15, main_arg16]

/-- The forward kernel writes none of those arrays. -/
theorem inRefs0 : ∀ a ∈ inRefs, ∀ w : Fin cfg0.W, Pipeline.arrRef spec0 w = a → (cfg0.win w).isOut = false :=
  ListAll.forall_mem_of_all_decide (by decide +kernel)

/-- The backward kernel writes none of those arrays. -/
theorem inRefs1 : ∀ a ∈ inRefs, ∀ w : Fin cfg1.W, Pipeline.arrRef spec1 w = a → (cfg1.win w).isOut = false :=
  ListAll.forall_mem_of_all_decide (by decide +kernel)

/-- The left kernel writes none of those arrays. -/
theorem inRefs2 : ∀ a ∈ inRefs, ∀ w : Fin cfg2.W, Pipeline.arrRef spec2 w = a → (cfg2.win w).isOut = false :=
  ListAll.forall_mem_of_all_decide (by decide +kernel)

/-- Two boundaries that agree on those arrays give the kernels the same arguments. -/
theorem kargs_congr (V V' : (c : Dev nD) → (b : Ref sig .tc) → Buf (Elt Ideal) ((c.tc : Thread nD τ).loc b)) (c : Dev nD)
    (h : ∀ b ∈ inRefs, V c b = V' c b) : kargs V c = kargs V' c := by
  unfold kargs
  rw [h main_arg0 (by decide), h main_arg1 (by decide), h main_arg2 (by decide), h main_arg3 (by decide), h main_arg4 (by decide),
    h main_arg5 (by decide), h main_arg6 (by decide), h main_arg7 (by decide), h main_arg8 (by decide), h main_v0 (by decide),
    h main_arg10 (by decide), h main_v1 (by decide), h main_arg12 (by decide), h main_arg13 (by decide), h main_arg14 (by decide),
    h main_arg15 (by decide), h main_arg16 (by decide)]

/-- The first kernel finds the arguments. -/
theorem kargs_V1 (c : Dev nD) : kargs (V1 m ρ) c = margs m c := by
  have h : ∀ a ∈ argRefs, V1 m ρ c a = m ((c : Thread nD τ).loc a) := W1_args m ρ c
  unfold kargs margs
  rw [h main_arg0 (by decide), h main_arg1 (by decide), h main_arg2 (by decide), h main_arg3 (by decide), h main_arg4 (by decide),
    h main_arg5 (by decide), h main_arg6 (by decide), h main_arg7 (by decide), h main_arg8 (by decide),
    h main_arg10 (by decide), h main_arg12 (by decide), h main_arg13 (by decide), h main_arg14 (by decide),
    h main_arg15 (by decide), h main_arg16 (by decide)]
  congr 1
  · funext b i; exact v0_eq m ρ c b i
  · funext b i; exact v1_eq m ρ c b i

/-- The second does, -/
theorem kargs_V2 (c : Dev nD) : kargs (V2 m ρ) c = margs m c :=
  (kargs_congr (V2 m ρ) (V1 m ρ) c fun b hb => W2_of m ρ c b (inRefs0 b hb)).trans (kargs_V1 m ρ c)

/-- the third, -/
theorem kargs_V3 (c : Dev nD) : kargs (V3 m ρ) c = margs m c :=
  (kargs_congr (V3 m ρ) (V2 m ρ) c fun b hb => W3_of m ρ c b (inRefs1 b hb)).trans (kargs_V2 m ρ c)

/-- and the fourth. -/
theorem kargs_V4 (c : Dev nD) : kargs (V4 m ρ) c = margs m c :=
  (kargs_congr (V4 m ρ) (V3 m ρ) c fun b hb => W4_of m ρ c b (inRefs2 b hb)).trans (kargs_V3 m ρ c)

/-- The second kernel finds the direction that the first one left. -/
theorem hasDir (c : Dev nD) : HasDir (V2 m ρ) c := fun b j l => by
  have h : V2 m ρ c main_v2_4 = _ := (W2_arr m ρ c 16).trans (arr_dir (V1 m ρ) c)
  rw [h, kargs_V1, kargs_V2]
  rfl

/-! ## What each result holds -/

/-- The new weight, -/
theorem end_wnew (c : Dev nD) :
    W5 m ρ c (Proc.devRef .tc main_v3_0) = fun y : S9x1536x2304.Idx => (margs m c).wnew (y 0) (y 1) (y 2) := by
  rw [W5_of m ρ c main_v3_0 (by decide +kernel), W4_of m ρ c main_v3_0 (by decide +kernel), ← kargs_V2 m ρ c]
  exact (W3_arr m ρ c 8).trans (arr_wnew c (hasDir m ρ c))

/-- the update, -/
theorem end_u (c : Dev nD) :
    W5 m ρ c (Proc.devRef .tc main_v3_1) = fun y : S9x1536x2304.Idx => (margs m c).u (y 0) (y 1) (y 2) := by
  rw [W5_of m ρ c main_v3_1 (by decide +kernel), W4_of m ρ c main_v3_1 (by decide +kernel), ← kargs_V2 m ρ c]
  exact (W3_arr m ρ c 9).trans (arr_u c (hasDir m ρ c))

/-- the new left statistic, -/
theorem end_lnew (c : Dev nD) :
    W5 m ρ c (Proc.devRef .tc main_v4_0) = fun y : S9x1536x1536.Idx => (margs m c).lnew (y 0) (y 1) (y 2) := by
  rw [W5_of m ρ c main_v4_0 (by decide +kernel), ← kargs_V3 m ρ c]
  exact (W4_arr m ρ c 4).trans (arr_lnew (V3 m ρ) c)

/-- the left statistic's product with its basis, -/
theorem end_pl (c : Dev nD) :
    W5 m ρ c (Proc.devRef .tc main_v4_1) = fun y : S9x1536x1536.Idx => (margs m c).pl (y 0) (y 1) (y 2) := by
  rw [W5_of m ρ c main_v4_1 (by decide +kernel), ← kargs_V3 m ρ c]
  exact (W4_arr m ρ c 5).trans (arr_pl (V3 m ρ) c)

/-- the new right statistic, -/
theorem end_rnew (c : Dev nD) :
    W5 m ρ c (Proc.devRef .tc main_v5_0) = fun y : S9x2304x2304.Idx => (margs m c).rnew (y 0) (y 1) (y 2) := by
  rw [← kargs_V4 m ρ c]
  exact (W5_arr m ρ c 4).trans (arr_rnew (V4 m ρ) c)

/-- the right statistic's product with its basis, -/
theorem end_pr (c : Dev nD) :
    W5 m ρ c (Proc.devRef .tc main_v5_1) = fun y : S9x2304x2304.Idx => (margs m c).pr (y 0) (y 1) (y 2) := by
  rw [← kargs_V4 m ρ c]
  exact (W5_arr m ρ c 5).trans (arr_pr (V4 m ρ) c)

/-- the first moment's codes, -/
theorem end_mcode (c : Dev nD) :
    W5 m ρ c (Proc.devRef .tc main_v2_0) = fun y : S9x1536x2304.Idx => ((margs m c).row (y 0) (y 1)).mcode (y 2) := by
  rw [W5_of m ρ c main_v2_0 (by decide +kernel), W4_of m ρ c main_v2_0 (by decide +kernel), W3_of m ρ c main_v2_0 (by decide +kernel), ← kargs_V1 m ρ c]
  exact (W2_arr m ρ c 12).trans (arr_mcode (V1 m ρ) c)

/-- its scales, -/
theorem end_mscale (c : Dev nD) :
    W5 m ρ c (Proc.devRef .tc main_v2_1) = fun y : S9x1536x18.Idx => ((margs m c).row (y 0) (y 1)).mscale (y 2) := by
  rw [W5_of m ρ c main_v2_1 (by decide +kernel), W4_of m ρ c main_v2_1 (by decide +kernel), W3_of m ρ c main_v2_1 (by decide +kernel), ← kargs_V1 m ρ c]
  exact (W2_arr m ρ c 13).trans (arr_mscale (V1 m ρ) c)

/-- the codes of the second moment's square root, -/
theorem end_vcode (c : Dev nD) :
    W5 m ρ c (Proc.devRef .tc main_v2_2) = fun y : S9x1536x2304.Idx => ((margs m c).row (y 0) (y 1)).vcode (y 2) := by
  rw [W5_of m ρ c main_v2_2 (by decide +kernel), W4_of m ρ c main_v2_2 (by decide +kernel), W3_of m ρ c main_v2_2 (by decide +kernel), ← kargs_V1 m ρ c]
  exact (W2_arr m ρ c 14).trans (arr_vcode (V1 m ρ) c)

/-- and its scales. -/
theorem end_vscale (c : Dev nD) :
    W5 m ρ c (Proc.devRef .tc main_v2_3) = fun y : S9x1536x18.Idx => ((margs m c).row (y 0) (y 1)).vscale (y 2) := by
  rw [W5_of m ρ c main_v2_3 (by decide +kernel), W4_of m ρ c main_v2_3 (by decide +kernel), W3_of m ρ c main_v2_3 (by decide +kernel), ← kargs_V1 m ρ c]
  exact (W2_arr m ρ c 15).trans (arr_vscale (V1 m ρ) c)

end Cert.KernelIdeal.Soap

end
-- ==== Proof.RefValue.lean ====
/- What the reference computes, read coordinate by coordinate: each of its ten results is the function of Spec.lean. -/
module

public import proofs.«01_k».proof.Proof.Gen.ReferenceIdeal.Read
public import proofs.«01_k».proof.Proof.Spec

@[expose] public section

set_option maxRecDepth 16384

noncomputable section

namespace Cert.ReferenceIdeal.Read

open Idealize.ShloMosaic Idealize.SL.Sem Cert.ReferenceIdeal Cert.Soap

/-- The contents of the arguments' buffers. -/
structure Bufs where
  w : (⟨S9x1536x2304, .f32⟩ : BufTy).Contents (Elt Ideal)
  g : (⟨S9x1536x2304, .bf16⟩ : BufTy).Contents (Elt Ideal)
  mc : (⟨S9x1536x2304, .i8⟩ : BufTy).Contents (Elt Ideal)
  ms : (⟨S9x1536x18, .f32⟩ : BufTy).Contents (Elt Ideal)
  vc : (⟨S9x1536x2304, .i8⟩ : BufTy).Contents (Elt Ideal)
  vs : (⟨S9x1536x18, .f32⟩ : BufTy).Contents (Elt Ideal)
  l : (⟨S9x1536x1536, .f32⟩ : BufTy).Contents (Elt Ideal)
  r : (⟨S9x2304x2304, .f32⟩ : BufTy).Contents (Elt Ideal)
  ql : (⟨S9x1536x1536, .i8⟩ : BufTy).Contents (Elt Ideal)
  qls : (⟨S9x1536, .f32⟩ : BufTy).Contents (Elt Ideal)
  qr : (⟨S9x2304x2304, .i8⟩ : BufTy).Contents (Elt Ideal)
  qrs : (⟨S9x2304, .f32⟩ : BufTy).Contents (Elt Ideal)
  c1 : (⟨S9, .f32⟩ : BufTy).Contents (Elt Ideal)
  c2 : (⟨S9, .f32⟩ : BufTy).Contents (Elt Ideal)
  eps : (⟨S9, .f32⟩ : BufTy).Contents (Elt Ideal)
  lr : (⟨S9, .f32⟩ : BufTy).Contents (Elt Ideal)
  wd : (⟨S9, .f32⟩ : BufTy).Contents (Elt Ideal)

/-- The arguments' buffers as functions of their coordinates. -/
def Bufs.args (X : Bufs) : Args where
  w := fun b i j => X.w (ix3 b i j)
  g := fun b i j => X.g (ix3 b i j)
  mc := fun b i j => X.mc (ix3 b i j)
  ms := fun b i j => X.ms (ix3 b i j)
  vc := fun b i j => X.vc (ix3 b i j)
  vs := fun b i j => X.vs (ix3 b i j)
  l := fun b i j => X.l (ix3 b i j)
  r := fun b i j => X.r (ix3 b i j)
  ql := fun b i j => X.ql (ix3 b i j)
  qls := fun b i => X.qls (ix2 b i)
  qr := fun b i j => X.qr (ix3 b i j)
  qrs := fun b i => X.qrs (ix2 b i)
  c1 := fun b => X.c1 (ix1 b)
  c2 := fun b => X.c2 (ix1 b)
  eps := fun b => X.eps (ix1 b)
  lr := fun b => X.lr (ix1 b)
  wd := fun b => X.wd (ix1 b)

/-- A signed code widened to 32 bits and converted is the code as a number. -/
theorem sitofp_signExtend (φ : FTy) (y : BitVec 8) : FloatOps.sitofp (F := Ideal) φ (BitVec.signExtend 32 y) = code y := by
  show (((BitVec.signExtend 32 y).toInt : ℝ) : EReal) = code y
  rw [BitVec.toInt_signExtend_of_le (by decide)]; rfl

variable (X : Bufs)

/-- The gradient rotated from both sides. -/
theorem v12_eq (b : Fin 9) (j : Fin 1536) (l : Fin 2304) :
    val_main_v12 X.g X.ql X.qls X.qr X.qrs (ix3 b j l) = (X.args.row b j).gr l := by
  pointwise [val_main_v12, val_main_v11, val_main_v10, val_main_v9, val_main_v8, val_main_v7, val_main_v6, val_main_v5, val_main_v4, val_main_v3, val_main_v2, val_main_v1, val_main_v0]
  simp only [sitofp_signExtend]; rfl

/-- The first moment. -/
theorem v24_eq (b : Fin 9) (j : Fin 1536) (l : Fin 2304) :
    val_main_v24 X.g X.mc X.ms X.ql X.qls X.qr X.qrs (ix3 b j l) = (X.args.row b j).mr l := by
  pointwise [val_main_v24, val_main_v23, val_main_v22, val_main_v21, val_main_v20, val_main_v19, val_main_v18, val_main_v17, val_main_v16, val_main_v15, val_main_v14, val_main_v13, val_main_cst_0, val_main_cst]
  rw [v12_eq X]; simp only [sitofp_signExtend]; rfl

/-- The first moment's scales. -/
theorem v29_eq (b : Fin 9) (j : Fin 1536) (q : Fin 18) :
    val_main_v29 X.g X.mc X.ms X.ql X.qls X.qr X.qrs (ix3 b j q) = (X.args.row b j).mscale q := by
  pointwise [val_main_v29, val_main_v28, val_main_v27, val_main_v26, val_main_v25, val_main_cst_1, val_main_cst_2]
  simp only [v24_eq X]; rfl

/-- The first moment's codes. -/
theorem v38_0_eq (b : Fin 9) (j : Fin 1536) (l : Fin 2304) :
    val_main_v38_0 X.g X.mc X.ms X.ql X.qls X.qr X.qrs (ix3 b j l) = (X.args.row b j).mcode l := by
  pointwise [val_main_v38_0, val_main_v37, val_main_v36, val_main_v35, val_main_v34, val_main_v33, val_main_v32, val_main_v31, val_main_v30, val_main_v25, val_main_call1_v4, val_main_call1_v3, val_main_call1_v2, val_main_call1_v1, val_main_call1_v0, val_main_c, val_main_c_3, id_eq]
  simp only [v24_eq X, v29_eq X]; rfl

/-- The second moment. -/
theorem v52_eq (b : Fin 9) (j : Fin 1536) (l : Fin 2304) :
    val_main_v52 X.g X.vc X.vs X.ql X.qls X.qr X.qrs (ix3 b j l) = (X.args.row b j).v l := by
  pointwise [val_main_v52, val_main_v51, val_main_v50, val_main_v49, val_main_v48, val_main_v47, val_main_v46, val_main_v45, val_main_v44, val_main_v43, val_main_v42, val_main_v41, val_main_v40, val_main_v39, val_main_cst_4, val_main_cst_5]
  simp only [v12_eq X]; rfl

/-- The normalized direction. -/
theorem v63_eq (b : Fin 9) (j : Fin 1536) (l : Fin 2304) :
    val_main_v63 X.g X.mc X.ms X.vc X.vs X.ql X.qls X.qr X.qrs X.c1 X.c2 X.eps (ix3 b j l) = (X.args.row b j).n l := by
  pointwise [val_main_v63, val_main_v62, val_main_v61, val_main_v60, val_main_v59, val_main_v58, val_main_v57, val_main_v56, val_main_v55, val_main_v54, val_main_v53]
  simp only [v24_eq X, v52_eq X]; rfl

/-- The scales of the second moment's square root. -/
theorem v68_eq (b : Fin 9) (j : Fin 1536) (q : Fin 18) :
    val_main_v68 X.g X.vc X.vs X.ql X.qls X.qr X.qrs (ix3 b j q) = (X.args.row b j).vscale q := by
  pointwise [val_main_v68, val_main_v67, val_main_v66, val_main_v65, val_main_v64, val_main_cst_6, val_main_cst_7]
  simp only [v52_eq X]; rfl

/-- The codes of the second moment's square root. -/
theorem v77_0_eq (b : Fin 9) (j : Fin 1536) (l : Fin 2304) :
    val_main_v77_0 X.g X.vc X.vs X.ql X.qls X.qr X.qrs (ix3 b j l) = (X.args.row b j).vcode l := by
  pointwise [val_main_v77_0, val_main_v76, val_main_v75, val_main_v74, val_main_v73, val_main_v72, val_main_v71, val_main_v70, val_main_v69, val_main_v65, val_main_v64, val_main_call3_v4, val_main_call3_v3, val_main_call3_v2, val_main_call3_v1, val_main_call3_v0, val_main_c_8, val_main_c_9, id_eq]
  simp only [v52_eq X, v68_eq X]; rfl

/-- The direction rotated back from the left. -/
theorem v88_eq (b : Fin 9) (j : Fin 1536) (l : Fin 2304) :
    val_main_v88 X.g X.mc X.ms X.vc X.vs X.ql X.qls X.qr X.qrs X.c1 X.c2 X.eps (ix3 b j l) = X.args.p b j l := by
  pointwise [val_main_v88, val_main_v87, val_main_v86, val_main_v81, val_main_v80, val_main_v79, val_main_v78, val_main_v1, val_main_v0]
  simp only [v63_eq X, sitofp_signExtend]; rfl

/-- The update. -/
theorem v89_eq (b : Fin 9) (j : Fin 1536) (l : Fin 2304) :
    val_main_v89 X.g X.mc X.ms X.vc X.vs X.ql X.qls X.qr X.qrs X.c1 X.c2 X.eps (ix3 b j l) = X.args.u b j l := by
  pointwise [val_main_v89, val_main_v85, val_main_v84, val_main_v83, val_main_v82, val_main_v3, val_main_v2]
  simp only [v88_eq X, sitofp_signExtend]; rfl

/-- The new weight. -/
theorem v97_eq (b : Fin 9) (j : Fin 1536) (l : Fin 2304) :
    val_main_v97 X.w X.g X.mc X.ms X.vc X.vs X.ql X.qls X.qr X.qrs X.c1 X.c2 X.eps X.lr X.wd (ix3 b j l) = X.args.wnew b j l := by
  pointwise [val_main_v97, val_main_v96, val_main_v95, val_main_v94, val_main_v93, val_main_v92, val_main_v91, val_main_v90]
  simp only [v89_eq X]; rfl

/-- The new left statistic. -/
theorem v103_eq (b : Fin 9) (i j : Fin 1536) :
    val_main_v103 X.g X.l (ix3 b i j) = X.args.lnew b i j := by
  pointwise [val_main_v103, val_main_v102, val_main_v101, val_main_v100, val_main_v99, val_main_v98, val_main_cst_10, val_main_cst_11]
  rfl

/-- The new right statistic. -/
theorem v109_eq (b : Fin 9) (i j : Fin 2304) :
    val_main_v109 X.g X.r (ix3 b i j) = X.args.rnew b i j := by
  pointwise [val_main_v109, val_main_v108, val_main_v107, val_main_v106, val_main_v105, val_main_v104, val_main_cst_12, val_main_cst_13]
  rfl

/-- The new left statistic applied to the left basis. -/
theorem v115_eq (b : Fin 9) (i j : Fin 1536) :
    val_main_v115 X.g X.l X.ql X.qls (ix3 b i j) = X.args.pl b i j := by
  pointwise [val_main_v115, val_main_v114, val_main_v113, val_main_v112, val_main_v111, val_main_v110, val_main_v1, val_main_v0]
  simp only [v103_eq X, sitofp_signExtend]; rfl

/-- The new right statistic applied to the right basis. -/
theorem v121_eq (b : Fin 9) (i j : Fin 2304) :
    val_main_v121 X.g X.r X.qr X.qrs (ix3 b i j) = X.args.pr b i j := by
  pointwise [val_main_v121, val_main_v120, val_main_v119, val_main_v118, val_main_v117, val_main_v116, val_main_v3, val_main_v2]
  simp only [v109_eq X, sitofp_signExtend]; rfl

end Cert.ReferenceIdeal.Read

end
-- ==== Proof.RefRun.lean ====
/- The reference's run: what every result array holds when it ends, as a function of what the arguments hold when it starts. -/
module

public import proofs.«01_k».proof.Proof.Gen.ReferenceIdeal.Run
public import proofs.«01_k».proof.Proof.RefValue

@[expose] public section

set_option maxRecDepth 16384
set_option maxHeartbeats 2000000

noncomputable section

namespace Cert.ReferenceIdeal.Read

open Idealize.ShloMosaic Idealize.ShloMosaic.TcCoe Idealize.SL.Sem Cert.ReferenceIdeal Cert.Soap

/-- The arguments' buffers in a memory. -/
def mbufs (m : (ℓ : Loc nD τ sig) → Buf (Elt Ideal) ℓ) (c : Dev nD) : Bufs where
  w := m ((c.tc : Thread nD τ).loc main_arg0)
  g := m ((c.tc : Thread nD τ).loc main_arg1)
  mc := m ((c.tc : Thread nD τ).loc main_arg2)
  ms := m ((c.tc : Thread nD τ).loc main_arg3)
  vc := m ((c.tc : Thread nD τ).loc main_arg4)
  vs := m ((c.tc : Thread nD τ).loc main_arg5)
  l := m ((c.tc : Thread nD τ).loc main_arg6)
  r := m ((c.tc : Thread nD τ).loc main_arg7)
  ql := m ((c.tc : Thread nD τ).loc main_arg8)
  qls := m ((c.tc : Thread nD τ).loc main_arg9)
  qr := m ((c.tc : Thread nD τ).loc main_arg10)
  qrs := m ((c.tc : Thread nD τ).loc main_arg11)
  c1 := m ((c.tc : Thread nD τ).loc main_arg12)
  c2 := m ((c.tc : Thread nD τ).loc main_arg13)
  eps := m ((c.tc : Thread nD τ).loc main_arg14)
  lr := m ((c.tc : Thread nD τ).loc main_arg15)
  wd := m ((c.tc : Thread nD τ).loc main_arg16)

/-- An array of rank 3 that agrees with a function of coordinates at all coordinates is that function. -/
theorem ext_ix3 {α : Type} {n0 n1 n2 : ℕ} (f : (⟨3, ![n0, n1, n2]⟩ : Shape).Idx → α) (g : Fin n0 → Fin n1 → Fin n2 → α)
    (h : ∀ i j k, f (ix3 i j k) = g i j k) : f = fun y => g (y 0) (y 1) (y 2) :=
  funext fun y => (congrArg f (eq_ix3 y)).trans (h _ _ _)

/-- Every execution terminates with each result at its function of the arguments, and with the arguments as they were. -/
theorem run_values (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v97) = (fun y : S9x1536x2304.Idx => (mbufs m c).args.wnew (y 0) (y 1) (y 2))
      ∧ r.2.mem ((c.tc : Thread nD τ).loc main_v89) = (fun y : S9x1536x2304.Idx => (mbufs m c).args.u (y 0) (y 1) (y 2))
      ∧ r.2.mem ((c.tc : Thread nD τ).loc main_v103) = (fun y : S9x1536x1536.Idx => (mbufs m c).args.lnew (y 0) (y 1) (y 2))
      ∧ r.2.mem ((c.tc : Thread nD τ).loc main_v109) = (fun y : S9x2304x2304.Idx => (mbufs m c).args.rnew (y 0) (y 1) (y 2))
      ∧ r.2.mem ((c.tc : Thread nD τ).loc main_v115) = (fun y : S9x1536x1536.Idx => (mbufs m c).args.pl (y 0) (y 1) (y 2))
      ∧ r.2.mem ((c.tc : Thread nD τ).loc main_v121) = (fun y : S9x2304x2304.Idx => (mbufs m c).args.pr (y 0) (y 1) (y 2))
      ∧ r.2.mem ((c.tc : Thread nD τ).loc main_v38_0) = (fun y : S9x1536x2304.Idx => ((mbufs m c).args.row (y 0) (y 1)).mcode (y 2))
      ∧ r.2.mem ((c.tc : Thread nD τ).loc main_v38_1) = (fun y : S9x1536x18.Idx => ((mbufs m c).args.row (y 0) (y 1)).mscale (y 2))
      ∧ r.2.mem ((c.tc : Thread nD τ).loc main_v77_0) = (fun y : S9x1536x2304.Idx => ((mbufs m c).args.row (y 0) (y 1)).vcode (y 2))
      ∧ r.2.mem ((c.tc : Thread nD τ).loc main_v77_1) = (fun y : S9x1536x18.Idx => ((mbufs m c).args.row (y 0) (y 1)).vscale (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run (defs (F := Ideal)) _ _).mono (fun r h c => by
    obtain ⟨h0, h1, h2, h3, h4, h5, h6, h7, h8, h9, ha⟩ := h c
    refine ⟨?_, ?_, ?_, ?_, ?_, ?_, ?_, ?_, ?_, ?_, ha⟩
    · exact h0.trans ((val_main_v97_eq m c).trans (ext_ix3 _ ((mbufs m c).args.wnew) (v97_eq (mbufs m c))))
    · exact h1.trans ((val_main_v89_eq m c).trans (ext_ix3 _ ((mbufs m c).args.u) (v89_eq (mbufs m c))))
    · exact h2.trans ((val_main_v103_eq ..).trans (ext_ix3 _ ((mbufs m c).args.lnew) (v103_eq (mbufs m c))))
    · exact h3.trans ((val_main_v109_eq ..).trans (ext_ix3 _ ((mbufs m c).args.rnew) (v109_eq (mbufs m c))))
    · exact h4.trans ((val_main_v115_eq ..).trans (ext_ix3 _ ((mbufs m c).args.pl) (v115_eq (mbufs m c))))
    · exact h5.trans ((val_main_v121_eq ..).trans (ext_ix3 _ ((mbufs m c).args.pr) (v121_eq (mbufs m c))))
    · exact h6.trans ((val_main_v38_0_eq ..).trans (ext_ix3 _ (fun b j l => ((mbufs m c).args.row b j).mcode l) (v38_0_eq (mbufs m c))))
    · exact h7.trans ((val_main_v38_1_eq ..).trans (ext_ix3 _ (fun b j l => ((mbufs m c).args.row b j).mscale l) (v29_eq (mbufs m c))))
    · exact h8.trans ((val_main_v77_0_eq m c).trans (ext_ix3 _ (fun b j l => ((mbufs m c).args.row b j).vcode l) (v77_0_eq (mbufs m c))))
    · exact h9.trans ((val_main_v77_1_eq ..).trans (ext_ix3 _ (fun b j l => ((mbufs m c).args.row b j).vscale l) (v68_eq (mbufs m c))))
    ) (Cert.ReferenceIdeal.Value.run (F := Ideal) m ρ)

end Cert.ReferenceIdeal.Read

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Run
public import proofs.«01_k».proof.Proof.RefRun
public import Idealize.ShloMosaic.Adequacy
public import Idealize.ShloMosaic.Init

@[expose] public section

set_option maxRecDepth 16384
set_option maxHeartbeats 2000000

noncomputable section

namespace Cert.Proof

open Idealize.ShloMosaic Idealize.ShloMosaic.TcCoe Idealize.SL.Sem Cert.Soap

/-- Every execution of the reference terminates with the arguments as they were and every counter at zero: it has none. -/
theorem reference_frame : Cert.quiescent_ReferenceIdeal (hReferenceIdeal := Cert.ReferenceIdeal.Gen.facts) := fun m ρ _ =>
  (θ_run (Cert.ReferenceIdeal.defs (F := Ideal)) _ _).mono
    (fun r h => ⟨fun c => (h c).2.2.2.2.2.2.2.2.2.2, Idealize.ShloMosaic.sem_eq_zero_of_no_sems (by decide) r.2⟩)
    (Cert.ReferenceIdeal.Value.run (F := Ideal) m ρ)

/-- Memories that agree on the arguments give both programs the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    (Cert.ReferenceIdeal.Read.mbufs m' c).args = Cert.KernelIdeal.Soap.margs m c := by
  obtain ⟨h0, h1, h2, h3, h4, h5, h6, h7, h8, h9, h10, h11, h12, h13, h14, h15, h16⟩ := h
  unfold Cert.ReferenceIdeal.Read.Bufs.args Cert.ReferenceIdeal.Read.mbufs Cert.KernelIdeal.Soap.margs
  dsimp only
  rw [h0, h1, h2, h3, h4, h5, h6, h7, h8, h9, h10, h11, h12, h13, h14, h15, h16]

/-- Over the extended reals the kernel and the reference end with the same ten results. -/
theorem value : Cert.algebraic_KernelIdeal_ReferenceIdeal (hKernelIdeal := Cert.KernelIdeal.Gen.facts)
    (hReferenceIdeal := Cert.ReferenceIdeal.Gen.facts) := by
  intro m ρ m' ρ' _ hagree
  refine ⟨
    fun c => fun y : Cert.KernelIdeal.S9x1536x2304.Idx => (Cert.KernelIdeal.Soap.margs m c).wnew (y 0) (y 1) (y 2),
    fun c => fun y : Cert.KernelIdeal.S9x1536x2304.Idx => (Cert.KernelIdeal.Soap.margs m c).u (y 0) (y 1) (y 2),
    fun c => fun y : Cert.KernelIdeal.S9x1536x1536.Idx => (Cert.KernelIdeal.Soap.margs m c).lnew (y 0) (y 1) (y 2),
    fun c => fun y : Cert.KernelIdeal.S9x2304x2304.Idx => (Cert.KernelIdeal.Soap.margs m c).rnew (y 0) (y 1) (y 2),
    fun c => fun y : Cert.KernelIdeal.S9x1536x1536.Idx => (Cert.KernelIdeal.Soap.margs m c).pl (y 0) (y 1) (y 2),
    fun c => fun y : Cert.KernelIdeal.S9x2304x2304.Idx => (Cert.KernelIdeal.Soap.margs m c).pr (y 0) (y 1) (y 2),
    fun c => fun y : Cert.KernelIdeal.S9x1536x2304.Idx => ((Cert.KernelIdeal.Soap.margs m c).row (y 0) (y 1)).mcode (y 2),
    fun c => fun y : Cert.KernelIdeal.S9x1536x18.Idx => ((Cert.KernelIdeal.Soap.margs m c).row (y 0) (y 1)).mscale (y 2),
    fun c => fun y : Cert.KernelIdeal.S9x1536x2304.Idx => ((Cert.KernelIdeal.Soap.margs m c).row (y 0) (y 1)).vcode (y 2),
    fun c => fun y : Cert.KernelIdeal.S9x1536x18.Idx => ((Cert.KernelIdeal.Soap.margs m c).row (y 0) (y 1)).vscale (y 2), ?_, ?_⟩
  · refine (θ_run (Cert.KernelIdeal.defs (F := Ideal)) _ _).mono (fun r h c => ?_) (Cert.KernelIdeal.Soap.run_held m ρ)
    have hb : ∀ b : Ref Cert.KernelIdeal.sig .tc, ¬ (Proc.devRef .tc b : DevRef Cert.KernelIdeal.τ Cert.KernelIdeal.sig).isScoped →
        r.2.mem ((c.tc : Thread Cert.KernelIdeal.nD Cert.KernelIdeal.τ).loc b) = Cert.KernelIdeal.Gen.W5 m ρ c (Proc.devRef .tc b) :=
      fun b hs => h c _ (Cert.KernelIdeal.Gen.mem_uc b hs)
    exact ⟨
      (hb Cert.KernelIdeal.main_v3_0 (by decide)).trans (Cert.KernelIdeal.Soap.end_wnew m ρ c),
      (hb Cert.KernelIdeal.main_v3_1 (by decide)).trans (Cert.KernelIdeal.Soap.end_u m ρ c),
      (hb Cert.KernelIdeal.main_v4_0 (by decide)).trans (Cert.KernelIdeal.Soap.end_lnew m ρ c),
      (hb Cert.KernelIdeal.main_v5_0 (by decide)).trans (Cert.KernelIdeal.Soap.end_rnew m ρ c),
      (hb Cert.KernelIdeal.main_v4_1 (by decide)).trans (Cert.KernelIdeal.Soap.end_pl m ρ c),
      (hb Cert.KernelIdeal.main_v5_1 (by decide)).trans (Cert.KernelIdeal.Soap.end_pr m ρ c),
      (hb Cert.KernelIdeal.main_v2_0 (by decide)).trans (Cert.KernelIdeal.Soap.end_mcode m ρ c),
      (hb Cert.KernelIdeal.main_v2_1 (by decide)).trans (Cert.KernelIdeal.Soap.end_mscale m ρ c),
      (hb Cert.KernelIdeal.main_v2_2 (by decide)).trans (Cert.KernelIdeal.Soap.end_vcode m ρ c),
      (hb Cert.KernelIdeal.main_v2_3 (by decide)).trans (Cert.KernelIdeal.Soap.end_vscale m ρ c),
      (hb Cert.KernelIdeal.main_arg0 (by decide)).trans (Cert.KernelIdeal.Gen.W5_main_arg0 m ρ c),
      (hb Cert.KernelIdeal.main_arg1 (by decide)).trans (Cert.KernelIdeal.Gen.W5_main_arg1 m ρ c),
      (hb Cert.KernelIdeal.main_arg2 (by decide)).trans (Cert.KernelIdeal.Gen.W5_main_arg2 m ρ c),
      (hb Cert.KernelIdeal.main_arg3 (by decide)).trans (Cert.KernelIdeal.Gen.W5_main_arg3 m ρ c),
      (hb Cert.KernelIdeal.main_arg4 (by decide)).trans (Cert.KernelIdeal.Gen.W5_main_arg4 m ρ c),
      (hb Cert.KernelIdeal.main_arg5 (by decide)).trans (Cert.KernelIdeal.Gen.W5_main_arg5 m ρ c),
      (hb Cert.KernelIdeal.main_arg6 (by decide)).trans (Cert.KernelIdeal.Gen.W5_main_arg6 m ρ c),
      (hb Cert.KernelIdeal.main_arg7 (by decide)).trans (Cert.KernelIdeal.Gen.W5_main_arg7 m ρ c),
      (hb Cert.KernelIdeal.main_arg8 (by decide)).trans (Cert.KernelIdeal.Gen.W5_main_arg8 m ρ c),
      (hb Cert.KernelIdeal.main_arg9 (by decide)).trans (Cert.KernelIdeal.Gen.W5_main_arg9 m ρ c),
      (hb Cert.KernelIdeal.main_arg10 (by decide)).trans (Cert.KernelIdeal.Gen.W5_main_arg10 m ρ c),
      (hb Cert.KernelIdeal.main_arg11 (by decide)).trans (Cert.KernelIdeal.Gen.W5_main_arg11 m ρ c),
      (hb Cert.KernelIdeal.main_arg12 (by decide)).trans (Cert.KernelIdeal.Gen.W5_main_arg12 m ρ c),
      (hb Cert.KernelIdeal.main_arg13 (by decide)).trans (Cert.KernelIdeal.Gen.W5_main_arg13 m ρ c),
      (hb Cert.KernelIdeal.main_arg14 (by decide)).trans (Cert.KernelIdeal.Gen.W5_main_arg14 m ρ c),
      (hb Cert.KernelIdeal.main_arg15 (by decide)).trans (Cert.KernelIdeal.Gen.W5_main_arg15 m ρ c),
      (hb Cert.KernelIdeal.main_arg16 (by decide)).trans (Cert.KernelIdeal.Gen.W5_main_arg16 m ρ c)⟩
  · refine (θ_run (Cert.ReferenceIdeal.defs (F := Ideal)) _ _).mono (fun r h c => ?_) (Cert.ReferenceIdeal.Read.run_values m' ρ')
    have hc := h c
    rw [args_eq m m' c (hagree c)] at hc
    exact hc

/-- Everything that is claimed. -/
theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, reference_frame, trivial, value⟩

end Cert.Proof

end
